-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![16384, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S2048x256 : Shape := ⟨2, ![2048, 256]⟩
abbrev S512 : Shape := ⟨1, ![512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : FVec F S2048x256 .f32) (main_arg1 : IVec S512 32) : IVec S_ 1 :=
  let main_c : IVec S_ 32 := constantI S_ 32 0#32
  let main_v0 : IVec S512 32 := broadcastInDim S512 ![] bcast_S_S512 main_c
  let main_v1 : IVec S512 1 := cmpi .sge main_arg1 main_v0
  let main_c_0 : IVec S_ 32 := constantI S_ 32 16384#32
  let main_v2 : IVec S512 32 := broadcastInDim S512 ![] bcast_S_S512 main_c_0
  let main_v3 : IVec S512 1 := cmpi .slt main_arg1 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== Pre_in_range_ReferenceIdeal.lean ====
abbrev S16384x256 : Shape := ⟨2, ![16384, 256]⟩
abbrev S512 : Shape := ⟨1, ![512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : FVec F S16384x256 .f32) (main_arg1 : IVec S512 32) : IVec S_ 1 :=
  let main_c : IVec S_ 32 := constantI S_ 32 0#32
  let main_v0 : IVec S512 32 := broadcastInDim S512 ![] bcast_S_S512 main_c
  let main_v1 : IVec S512 1 := cmpi .sge main_arg1 main_v0
  let main_c_0 : IVec S_ 32 := constantI S_ 32 16384#32
  let main_v2 : IVec S512 32 := broadcastInDim S512 ![] bcast_S_S512 main_c_0
  let main_v3 : IVec S512 1 := cmpi .slt main_arg1 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== Kernel.lean ====
abbrev S2048x256 : Shape := ⟨2, ![2048, 256]⟩
abbrev S512 : Shape := ⟨1, ![512]⟩
abbrev S512x256 : Shape := ⟨2, ![512, 256]⟩
abbrev S64x256 : Shape := ⟨2, ![64, 256]⟩
abbrev S8x64x256 : Shape := ⟨3, ![8, 64, 256]⟩
abbrev S8 : Shape := ⟨1, ![8]⟩
abbrev S_ : Shape := ⟨0, ![]⟩
abbrev S128 : Shape := ⟨1, ![128]⟩
abbrev S1x128 : Shape := ⟨2, ![1, 128]⟩
abbrev S2048x128 : Shape := ⟨2, ![2048, 128]⟩
abbrev S128x256 : Shape := ⟨2, ![128, 256]⟩
abbrev S1 : Shape := ⟨1, ![1]⟩
abbrev S1x64x256 : Shape := ⟨3, ![1, 64, 256]⟩

abbrev nBuf : Space → Nat
  | .hbm => 3
  | .vmem => 7
  | .smem => 0
  | _ => 0

abbrev bufTy : (tb : Table) → Fin (tcTables nBuf tb) → BufTy
  | .hbm, ⟨0, _⟩ => ⟨S2048x256, .f32⟩
  | .hbm, ⟨1, _⟩ => ⟨S512, .i32⟩
  | .hbm, ⟨2, _⟩ => ⟨S512x256, .bf16⟩
  | .local _ .vmem, ⟨0, _⟩ => ⟨S512, .i32⟩
  | .local _ .vmem, ⟨1, _⟩ => ⟨S512x256, .bf16⟩
  | .local _ .vmem, ⟨2, _⟩ => ⟨S2048x256, .f32⟩
  | .local _ .vmem, ⟨3, _⟩ => ⟨S512x256, .bf16⟩
  | .local _ .vmem, ⟨4, _⟩ => ⟨S64x256, .bf16⟩
  | .local _ .vmem, ⟨5, _⟩ => ⟨S8x64x256, .bf16⟩
  | .local _ .vmem, ⟨6, _⟩ => ⟨S8x64x256, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c0_i32_31 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_29 : BitVec 32 := 2#32
  let v35 : BitVec 32 := Scalar.divsi v2 c2_i32_29
  let c1_i32_30 : BitVec 32 := 1#32
  let v36 : BitVec 32 := Scalar.addi v35 c1_i32_30
  let v37 : BitVec 32 := Scalar.addi v36 c0_i32_31
  let c4_i32_32 : BitVec 32 := 4#32
  let v38 : BitVec 32 := Scalar.remsi v37 c4_i32_32
  let c128_i32 : BitVec 32 := 128#32
  let v39 : BitVec 32 := Scalar.muli v38 c128_i32
  let v40 : Index := Scalar.indexCast v39
  ![v40.toNat]
def k0_off2 (d0 : Dev nD) (c0_i32_31 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_29 : BitVec 32 := 2#32
  let v35 : BitVec 32 := Scalar.divsi v2 c2_i32_29
  let c1_i32_30 : BitVec 32 := 1#32
  let v36 : BitVec 32 := Scalar.addi v35 c1_i32_30
  let v37 : BitVec 32 := Scalar.addi v36 c0_i32_31
  let c4_i32_32 : BitVec 32 := 4#32
  let v38 : BitVec 32 := Scalar.remsi v37 c4_i32_32
  let c128_i32_33 : BitVec 32 := 128#32
  let v54 : BitVec 32 := Scalar.muli v38 c128_i32_33
  let v55 : Index := Scalar.indexCast v54
  let c0_34 : Index := 0#32
  ![v55.toNat, 0]
def k0_off3 (d0 : Dev nD) (c0_i32_31 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_29 : BitVec 32 := 2#32
  let v35 : BitVec 32 := Scalar.divsi v2 c2_i32_29
  let c1_i32_30 : BitVec 32 := 1#32
  let v36 : BitVec 32 := Scalar.addi v35 c1_i32_30
  let v37 : BitVec 32 := Scalar.addi v36 c0_i32_31
  let c4_i32_32 : BitVec 32 := 4#32
  let v38 : BitVec 32 := Scalar.remsi v37 c4_i32_32
  let c2_i32_36 : BitVec 32 := 2#32
  let v59 : BitVec 32 := Scalar.muli v38 c2_i32_36
  ![v59.toNat]
def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_41 : BitVec 32 := 0#32
  let c0_i32_42 : BitVec 32 := 0#32
  ![v2.toNat, 0, 0]
def k0_off6 (d0 : Dev nD) (c0_i32_31 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_29 : BitVec 32 := 2#32
  let v35 : BitVec 32 := Scalar.divsi v2 c2_i32_29
  let c1_i32_30 : BitVec 32 := 1#32
  let v36 : BitVec 32 := Scalar.addi v35 c1_i32_30
  let v37 : BitVec 32 := Scalar.addi v36 c0_i32_31
  let c4_i32_32 : BitVec 32 := 4#32
  let v38 : BitVec 32 := Scalar.remsi v37 c4_i32_32
  let c2_i32_36 : BitVec 32 := 2#32
  let v59 : BitVec 32 := Scalar.muli v38 c2_i32_36
  let c64_i32 : BitVec 32 := 64#32
  let v62 : BitVec 32 := Scalar.muli v59 c64_i32
  let c0_i32_43 : BitVec 32 := 0#32
  ![v62.toNat, 0]
def k0_dev8 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_29 : BitVec 32 := 2#32
  let v35 : BitVec 32 := Scalar.divsi v2 c2_i32_29
  let c1_i32_30 : BitVec 32 := 1#32
  let v36 : BitVec 32 := Scalar.addi v35 c1_i32_30
  let c0_i32_31 : BitVec 32 := 0#32
  let v37 : BitVec 32 := Scalar.addi v36 c0_i32_31
  let c4_i32_32 : BitVec 32 := 4#32
  let v38 : BitVec 32 := Scalar.remsi v37 c4_i32_32
  let c2_i32_36 : BitVec 32 := 2#32
  let v59 : BitVec 32 := Scalar.muli v38 c2_i32_36
  let c1_i32_39 : BitVec 32 := 1#32
  let v63 : BitVec 32 := Scalar.muli v59 c1_i32_39
  let v64 : BitVec 32 := Scalar.addi c0_i32_40 v63
  v64.toNat
def k0_off7 (d0 : Dev nD) (c0_i32_31 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_29 : BitVec 32 := 2#32
  let v35 : BitVec 32 := Scalar.divsi v2 c2_i32_29
  let c1_i32_30 : BitVec 32 := 1#32
  let v36 : BitVec 32 := Scalar.addi v35 c1_i32_30
  let v37 : BitVec 32 := Scalar.addi v36 c0_i32_31
  let c4_i32_32 : BitVec 32 := 4#32
  let v38 : BitVec 32 := Scalar.remsi v37 c4_i32_32
  let c2_i32_37 : BitVec 32 := 2#32
  let v60 : BitVec 32 := Scalar.muli v38 c2_i32_37
  let c1_i32_38 : BitVec 32 := 1#32
  let v61 : BitVec 32 := Scalar.addi v60 c1_i32_38
  ![v61.toNat]
def k0_off8 (d0 : Dev nD) (c0_i32_31 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_29 : BitVec 32 := 2#32
  let v35 : BitVec 32 := Scalar.divsi v2 c2_i32_29
  let c1_i32_30 : BitVec 32 := 1#32
  let v36 : BitVec 32 := Scalar.addi v35 c1_i32_30
  let v37 : BitVec 32 := Scalar.addi v36 c0_i32_31
  let c4_i32_32 : BitVec 32 := 4#32
  let v38 : BitVec 32 := Scalar.remsi v37 c4_i32_32
  let c2_i32_37 : BitVec 32 := 2#32
  let v60 : BitVec 32 := Scalar.muli v38 c2_i32_37
  let c1_i32_38 : BitVec 32 := 1#32
  let v61 : BitVec 32 := Scalar.addi v60 c1_i32_38
  let c64_i32_44 : BitVec 32 := 64#32
  let v72 : BitVec 32 := Scalar.muli v61 c64_i32_44
  let c0_i32_49 : BitVec 32 := 0#32
  ![v72.toNat, 0]
def k0_dev9 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_29 : BitVec 32 := 2#32
  let v35 : BitVec 32 := Scalar.divsi v2 c2_i32_29
  let c1_i32_30 : BitVec 32 := 1#32
  let v36 : BitVec 32 := Scalar.addi v35 c1_i32_30
  let c0_i32_31 : BitVec 32 := 0#32
  let v37 : BitVec 32 := Scalar.addi v36 c0_i32_31
  let c4_i32_32 : BitVec 32 := 4#32
  let v38 : BitVec 32 := Scalar.remsi v37 c4_i32_32
  let c2_i32_37 : BitVec 32 := 2#32
  let v60 : BitVec 32 := Scalar.muli v38 c2_i32_37
  let c1_i32_38 : BitVec 32 := 1#32
  let v61 : BitVec 32 := Scalar.addi v60 c1_i32_38
  let c1_i32_45 : BitVec 32 := 1#32
  let v73 : BitVec 32 := Scalar.muli v61 c1_i32_45
  let v74 : BitVec 32 := Scalar.addi c0_i32_46 v73
  v74.toNat
def k0_dev10 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_29 : BitVec 32 := 2#32
  let v35 : BitVec 32 := Scalar.divsi v2 c2_i32_29
  let c1_i32_50 : BitVec 32 := 1#32
  let v82 : BitVec 32 := Scalar.addi v35 c1_i32_50
  let c1_i32_51 : BitVec 32 := 1#32
  let v83 : BitVec 32 := Scalar.addi v82 c1_i32_51
  let c4_i32_52 : BitVec 32 := 4#32
  let v84 : BitVec 32 := Scalar.remsi v83 c4_i32_52
  let c2_i32_57 : BitVec 32 := 2#32
  let v105 : BitVec 32 := Scalar.muli v84 c2_i32_57
  let c1_i32_61 : BitVec 32 := 1#32
  let v109 : BitVec 32 := Scalar.muli v105 c1_i32_61
  let v110 : BitVec 32 := Scalar.addi c0_i32_62 v109
  v110.toNat
def k0_dev11 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_29 : BitVec 32 := 2#32
  let v35 : BitVec 32 := Scalar.divsi v2 c2_i32_29
  let c1_i32_50 : BitVec 32 := 1#32
  let v82 : BitVec 32 := Scalar.addi v35 c1_i32_50
  let c1_i32_51 : BitVec 32 := 1#32
  let v83 : BitVec 32 := Scalar.addi v82 c1_i32_51
  let c4_i32_52 : BitVec 32 := 4#32
  let v84 : BitVec 32 := Scalar.remsi v83 c4_i32_52
  let c2_i32_58 : BitVec 32 := 2#32
  let v106 : BitVec 32 := Scalar.muli v84 c2_i32_58
  let c1_i32_59 : BitVec 32 := 1#32
  let v107 : BitVec 32 := Scalar.addi v106 c1_i32_59
  let c1_i32_67 : BitVec 32 := 1#32
  let v119 : BitVec 32 := Scalar.muli v107 c1_i32_67
  let v120 : BitVec 32 := Scalar.addi c0_i32_68 v119
  v120.toNat
def k0_dev12 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_29 : BitVec 32 := 2#32
  let v35 : BitVec 32 := Scalar.divsi v2 c2_i32_29
  let c1_i32_72 : BitVec 32 := 1#32
  let v128 : BitVec 32 := Scalar.addi v35 c1_i32_72
  let c2_i32_73 : BitVec 32 := 2#32
  let v129 : BitVec 32 := Scalar.addi v128 c2_i32_73
  let c4_i32_74 : BitVec 32 := 4#32
  let v130 : BitVec 32 := Scalar.remsi v129 c4_i32_74
  let c2_i32_79 : BitVec 32 := 2#32
  let v151 : BitVec 32 := Scalar.muli v130 c2_i32_79
  let c1_i32_83 : BitVec 32 := 1#32
  let v155 : BitVec 32 := Scalar.muli v151 c1_i32_83
  let v156 : BitVec 32 := Scalar.addi c0_i32_84 v155
  v156.toNat
def k0_dev13 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_29 : BitVec 32 := 2#32
  let v35 : BitVec 32 := Scalar.divsi v2 c2_i32_29
  let c1_i32_72 : BitVec 32 := 1#32
  let v128 : BitVec 32 := Scalar.addi v35 c1_i32_72
  let c2_i32_73 : BitVec 32 := 2#32
  let v129 : BitVec 32 := Scalar.addi v128 c2_i32_73
  let c4_i32_74 : BitVec 32 := 4#32
  let v130 : BitVec 32 := Scalar.remsi v129 c4_i32_74
  let c2_i32_80 : BitVec 32 := 2#32
  let v152 : BitVec 32 := Scalar.muli v130 c2_i32_80
  let c1_i32_81 : BitVec 32 := 1#32
  let v153 : BitVec 32 := Scalar.addi v152 c1_i32_81
  let c1_i32_89 : BitVec 32 := 1#32
  let v165 : BitVec 32 := Scalar.muli v153 c1_i32_89
  let v166 : BitVec 32 := Scalar.addi c0_i32_90 v165
  v166.toNat
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_104 : BitVec 32 := 64#32
  let v201 : BitVec 32 := Scalar.muli v2 c64_i32_104
  let v202 : Index := Scalar.indexCast v201
  let c0_105 : Index := 0#32
  ![v202.toNat, 0]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v204 : Index := Scalar.indexCast v2
  let c0_106 : Index := 0#32
  let c0_107 : Index := 0#32
  ![v204.toNat, 0, 0]
def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_101 : BitVec 32 := 1#32
  let v197 : BitVec 32 := Scalar.addi v2 c1_i32_101
  let c2_i32_103 : BitVec 32 := 2#32
  let c2_i32_102 : BitVec 32 := 2#32
  let v198 : BitVec 32 := Scalar.remsi v2 c2_i32_102
  let v199 : BitVec 32 := Scalar.muli c2_i32_103 v198
  let v200 : BitVec 32 := Scalar.subi v197 v199
  ![v200.toNat]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_101 : BitVec 32 := 1#32
  let v197 : BitVec 32 := Scalar.addi v2 c1_i32_101
  let c2_i32_103 : BitVec 32 := 2#32
  let c2_i32_102 : BitVec 32 := 2#32
  let v198 : BitVec 32 := Scalar.remsi v2 c2_i32_102
  let v199 : BitVec 32 := Scalar.muli c2_i32_103 v198
  let v200 : BitVec 32 := Scalar.subi v197 v199
  let c64_i32_108 : BitVec 32 := 64#32
  let v208 : BitVec 32 := Scalar.muli v200 c64_i32_108
  let c0_i32_113 : BitVec 32 := 0#32
  ![v208.toNat, 0]
def k0_dev14 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_101 : BitVec 32 := 1#32
  let v197 : BitVec 32 := Scalar.addi v2 c1_i32_101
  let c2_i32_103 : BitVec 32 := 2#32
  let c2_i32_102 : BitVec 32 := 2#32
  let v198 : BitVec 32 := Scalar.remsi v2 c2_i32_102
  let v199 : BitVec 32 := Scalar.muli c2_i32_103 v198
  let v200 : BitVec 32 := Scalar.subi v197 v199
  let c1_i32_109 : BitVec 32 := 1#32
  let v209 : BitVec 32 := Scalar.muli v200 c1_i32_109
  let v210 : BitVec 32 := Scalar.addi c0_i32_110 v209
  v210.toNat
def k0_off13 (d0 : Dev nD) (c1_i32_114 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v218 : BitVec 32 := Scalar.addi v2 c1_i32_114
  let c8_i32_115 : BitVec 32 := 8#32
  let v219 : BitVec 32 := Scalar.remsi v218 c8_i32_115
  ![v219.toNat]
def k0_off14 (d0 : Dev nD) (c1_i32_114 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v218 : BitVec 32 := Scalar.addi v2 c1_i32_114
  let c8_i32_115 : BitVec 32 := 8#32
  let v219 : BitVec 32 := Scalar.remsi v218 c8_i32_115
  let c0_i32_119 : BitVec 32 := 0#32
  let c0_i32_120 : BitVec 32 := 0#32
  ![v219.toNat, 0, 0]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_116 : BitVec 32 := 64#32
  let v220 : BitVec 32 := Scalar.muli v2 c64_i32_116
  let c0_i32_121 : BitVec 32 := 0#32
  ![v220.toNat, 0]
def k0_dev15 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_191 : BitVec 32 := 1#32
  let v327 : BitVec 32 := Scalar.addi v2 c1_i32_191
  let c8_i32_192 : BitVec 32 := 8#32
  let v328 : BitVec 32 := Scalar.remsi v327 c8_i32_192
  let c1_i32_193 : BitVec 32 := 1#32
  let v329 : BitVec 32 := Scalar.muli v328 c1_i32_193
  let v330 : BitVec 32 := Scalar.addi c0_i32_194 v329
  v330.toNat
def k0_dev16 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_197 : BitVec 32 := 2#32
  let v337 : BitVec 32 := Scalar.addi v2 c2_i32_197
  let c8_i32_198 : BitVec 32 := 8#32
  let v338 : BitVec 32 := Scalar.remsi v337 c8_i32_198
  let c1_i32_199 : BitVec 32 := 1#32
  let v339 : BitVec 32 := Scalar.muli v338 c1_i32_199
  let v340 : BitVec 32 := Scalar.addi c0_i32_200 v339
  v340.toNat
def k0_dev17 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_203 : BitVec 32 := 3#32
  let v347 : BitVec 32 := Scalar.addi v2 c3_i32_203
  let c8_i32_204 : BitVec 32 := 8#32
  let v348 : BitVec 32 := Scalar.remsi v347 c8_i32_204
  let c1_i32_205 : BitVec 32 := 1#32
  let v349 : BitVec 32 := Scalar.muli v348 c1_i32_205
  let v350 : BitVec 32 := Scalar.addi c0_i32_206 v349
  v350.toNat
def k0_dev18 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_209 : BitVec 32 := 4#32
  let v357 : BitVec 32 := Scalar.addi v2 c4_i32_209
  let c8_i32_210 : BitVec 32 := 8#32
  let v358 : BitVec 32 := Scalar.remsi v357 c8_i32_210
  let c1_i32_211 : BitVec 32 := 1#32
  let v359 : BitVec 32 := Scalar.muli v358 c1_i32_211
  let v360 : BitVec 32 := Scalar.addi c0_i32_212 v359
  v360.toNat
def k0_dev19 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_215 : BitVec 32 := 5#32
  let v367 : BitVec 32 := Scalar.addi v2 c5_i32_215
  let c8_i32_216 : BitVec 32 := 8#32
  let v368 : BitVec 32 := Scalar.remsi v367 c8_i32_216
  let c1_i32_217 : BitVec 32 := 1#32
  let v369 : BitVec 32 := Scalar.muli v368 c1_i32_217
  let v370 : BitVec 32 := Scalar.addi c0_i32_218 v369
  v370.toNat
def k0_dev20 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_221 : BitVec 32 := 6#32
  let v377 : BitVec 32 := Scalar.addi v2 c6_i32_221
  let c8_i32_222 : BitVec 32 := 8#32
  let v378 : BitVec 32 := Scalar.remsi v377 c8_i32_222
  let c1_i32_223 : BitVec 32 := 1#32
  let v379 : BitVec 32 := Scalar.muli v378 c1_i32_223
  let v380 : BitVec 32 := Scalar.addi c0_i32_224 v379
  v380.toNat
def k0_dev21 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_227 : BitVec 32 := 7#32
  let v387 : BitVec 32 := Scalar.addi v2 c7_i32_227
  let c8_i32_228 : BitVec 32 := 8#32
  let v388 : BitVec 32 := Scalar.remsi v387 c8_i32_228
  let c1_i32_229 : BitVec 32 := 1#32
  let v389 : BitVec 32 := Scalar.muli v388 c1_i32_229
  let v390 : BitVec 32 := Scalar.addi c0_i32_230 v389
  v390.toNat
abbrev stage0_0 : Fin 1 → Memref sig .tc .vmem S512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x256 : Shape := ⟨2, ![16384, 256]⟩
abbrev S512 : Shape := ⟨1, ![512]⟩
abbrev S_ : Shape := ⟨0, ![]⟩
abbrev S512x1 : Shape := ⟨2, ![512, 1]⟩
abbrev S512x256 : Shape := ⟨2, ![512, 256]⟩

abbrev nBuf : Space → Nat
  | .hbm => 12
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S512, .i32⟩
  | .hbm, ⟨2, _⟩ => ⟨S_, .i32⟩
  | .hbm, ⟨3, _⟩ => ⟨S512, .i32⟩
  | .hbm, ⟨4, _⟩ => ⟨S512, .i1⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512, .i32⟩
  | .hbm, ⟨9, _⟩ => ⟨S512x1, .i32⟩
  | .hbm, ⟨10, _⟩ => ⟨S512x256, .f32⟩
  | .hbm, ⟨11, _⟩ => ⟨S512x256, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Gather.Geometry.lean ====
/- The places of the kernel: the devices in the orders it names them, the blocks of its buffers that travel between the
   devices, and its semaphores by their use. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen

open Idealize.ShloMosaic
open Idealize.ShloMosaic.TcCoe
open Idealize.SL Idealize.SL.RA Idealize.SL.BI

/-! ## Devices -/

/-- The device `k` places after `c` around the ring. -/
def nx (c : Dev nD) (k : ℕ) : Dev nD := ⟨(c.val + k) % 8, Nat.mod_lt _ (by decide)⟩

/-- The pair of devices (chunk of 128 rows) that `c` serves in its `r`-th step. -/
def chunkOf (c : Dev nD) (r : ℕ) : Fin 4 := ⟨(c.val / 2 + r + 1) % 4, Nat.mod_lt _ (by decide)⟩

/-- The first and the second device of a pair. -/
def evenOf (q : Fin 4) : Dev nD := ⟨2 * q.val, by have := q.isLt; show _ < 8; omega⟩
def oddOf (q : Fin 4) : Dev nD := ⟨2 * q.val + 1, by have := q.isLt; show _ < 8; omega⟩

/-- The other device of `c`'s own pair. -/
def pair (c : Dev nD) : Dev nD := ⟨c.val + 1 - 2 * (c.val % 2), by have : c.val < 8 := c.isLt; show _ < 8; omega⟩

/-- The seven peers of `c` in the order of distance. -/
def ringOrder (c : Dev nD) : List (Dev nD) := [nx c 1, nx c 2, nx c 3, nx c 4, nx c 5, nx c 6, nx c 7]
/-- The seven peers of `c` in the order in which it sends them their rows of the partial result. -/
def sendOrder (c : Dev nD) : List (Dev nD) :=
  [evenOf (chunkOf c 0), oddOf (chunkOf c 0), evenOf (chunkOf c 1), oddOf (chunkOf c 1), evenOf (chunkOf c 2), oddOf (chunkOf c 2), pair c]

theorem ringOrder_nodup (c : Dev nD) : (ringOrder c).Nodup := by revert c; decide
theorem ringOrder_set (c : Dev nD) : (ringOrder c).toFinset = Finset.univ.erase c := by revert c; decide
theorem sendOrder_nodup (c : Dev nD) : (sendOrder c).Nodup := by revert c; decide
theorem sendOrder_set (c : Dev nD) : (sendOrder c).toFinset = Finset.univ.erase c := by revert c; decide

theorem ne_of_ring {c p : Dev nD} (h : p ∈ ringOrder c) : p ≠ c :=
  Finset.ne_of_mem_erase (by rw [← ringOrder_set c]; exact List.mem_toFinset.mpr h)
theorem ne_of_send {c p : Dev nD} (h : p ∈ sendOrder c) : p ≠ c :=
  Finset.ne_of_mem_erase (by rw [← sendOrder_set c]; exact List.mem_toFinset.mpr h)

/-! ## Buffers -/

abbrev hM : Memref sig .tc .hbm S2048x256 .f32 := Memref.whole main_arg0
abbrev xM : Memref sig .tc .vmem S512 .i32 := Memref.whole cc0_stg0_0
abbrev oM : Memref sig .tc .vmem S512x256 .bf16 := Memref.whole cc0_stg1_0
abbrev tM : Memref sig .tc .vmem S2048x256 .f32 := Memref.whole cc0_scratch0
abbrev pM : Memref sig .tc .vmem S512x256 .bf16 := Memref.whole cc0_scratch1
abbrev gM : Memref sig .tc .vmem S64x256 .bf16 := Memref.whole cc0_scratch2
abbrev rM : Memref sig .tc .vmem S8x64x256 .bf16 := Memref.whole cc0_scratch3
abbrev aM : Memref sig .tc .vmem S8x64x256 .bf16 := Memref.whole cc0_scratch4

theorem seg_inb (p : Dev nD) : ∀ a, (![64 * p.val, 0] : Fin 2 → ℕ) a + S64x256.size a ≤ S512x256.size a := by revert p; decide
theorem chunk_inb (q : Fin 4) : ∀ a, (![128 * q.val, 0] : Fin 2 → ℕ) a + S128x256.size a ≤ S512x256.size a := by revert q; decide
theorem ids_inb (q : Fin 4) : ∀ a, (![128 * q.val] : Fin 1 → ℕ) a + S128.size a ≤ S512.size a := by revert q; decide
theorem row_inb (s : Dev nD) : ∀ a, (![s.val, 0, 0] : Fin 3 → ℕ) a + S1x64x256.size a ≤ S8x64x256.size a := by revert s; decide

/-- Rows `64 p … 64 p + 63` of the partial result: what goes to device `p`. -/
abbrev segRect (p : Dev nD) : Rect S512x256 := Rect.unit (s := S512x256) ![64 * p.val, 0] S64x256.size (seg_inb p)
abbrev segM (p : Dev nD) : Memref sig .tc .vmem S64x256 .bf16 := pM.slice (segRect p) (fun _ => rfl)
/-- Rows `128 q … 128 q + 127` of the partial result. -/
abbrev chunkRect (q : Fin 4) : Rect S512x256 := Rect.unit (s := S512x256) ![128 * q.val, 0] S128x256.size (chunk_inb q)
abbrev chunkM (q : Fin 4) : Memref sig .tc .vmem S128x256 .bf16 := pM.slice (chunkRect q) (fun _ => rfl)
/-- Indices `128 q … 128 q + 127`. -/
abbrev idsRect (q : Fin 4) : Rect S512 := Rect.unit (s := S512) ![128 * q.val] S128.size (ids_inb q)
/-- Row `s` of the two landing buffers: what comes from device `s`. -/
abbrev rowRect (s : Dev nD) : Rect S8x64x256 := Rect.unit (s := S8x64x256) ![s.val, 0, 0] S1x64x256.size (row_inb s)
abbrev rRow (s : Dev nD) : Memref sig .tc .vmem S64x256 .bf16 := (rM.slice (rowRect s) (fun _ => rfl)).squeeze S64x256 squeezes_S1x64x256_S64x256
abbrev aRow (s : Dev nD) : Memref sig .tc .vmem S64x256 .bf16 := (aM.slice (rowRect s) (fun _ => rfl)).squeeze S64x256 squeezes_S1x64x256_S64x256

/-- The elements of these blocks. -/
abbrev segSet (p : Dev nD) : Finset S512x256.Idx := (segM p).view.set
abbrev chunkSet (q : Fin 4) : Finset S512x256.Idx := (chunkM q).view.set
abbrev rSet (s : Dev nD) : Finset S8x64x256.Idx := (rRow s).view.set
abbrev aSet (s : Dev nD) : Finset S8x64x256.Idx := (aRow s).view.set

/-! ## Semaphores -/

/-- The barrier semaphore. -/
abbrev barS : Sem sig := (SemArray.scalar (sig.barrier 0 rfl) : Sems sig S_).sem

/-- The kernel's DMA semaphores by family — 0: rows of the partial result sent, 1: received, 2: sums sent, 3: received —
    and peer. -/
def xsem (a : Fin 4) (p : Dev nD) : DmaSem sig := ⟨2 + 8 * a.val + p.val, by have := a.isLt; have : p.val < 8 := p.isLt; show _ < 35; omega⟩
/-- The semaphore of the table's copy. -/
def tabS : DmaSem sig := ⟨34, by decide⟩

theorem sem_inb (p : Dev nD) : ∀ a, (![p.val] : Fin 1 → ℕ) a + S1.size a ≤ S8.size a := by revert p; decide

theorem sem5_eq (off : Fin 1 → ℕ) (inb) (p : Dev nD) (h : off = ![p.val]) :
    ((cc0_scratch5.slice (Rect.unit (s := S8) off S1.size inb)).squeeze S_ squeezes_S1_S_).sem = xsem 0 p := by
  subst h; revert p; decide
theorem sem6_eq (off : Fin 1 → ℕ) (inb) (p : Dev nD) (h : off = ![p.val]) :
    ((cc0_scratch6.slice (Rect.unit (s := S8) off S1.size inb)).squeeze S_ squeezes_S1_S_).sem = xsem 1 p := by
  subst h; revert p; decide
theorem sem7_eq (off : Fin 1 → ℕ) (inb) (p : Dev nD) (h : off = ![p.val]) :
    ((cc0_scratch7.slice (Rect.unit (s := S8) off S1.size inb)).squeeze S_ squeezes_S1_S_).sem = xsem 2 p := by
  subst h; revert p; decide
theorem sem8_eq (off : Fin 1 → ℕ) (inb) (p : Dev nD) (h : off = ![p.val]) :
    ((cc0_scratch8.slice (Rect.unit (s := S8) off S1.size inb)).squeeze S_ squeezes_S1_S_).sem = xsem 3 p := by
  subst h; revert p; decide
theorem sem9_eq : cc0_scratch9.sem = tabS := by decide

/-! ## Credits -/

/-- The credit of one 64 by 256 block, and of the table. -/
abbrev N : ℕ := (gM : Memref sig .tc .vmem S64x256 .bf16).view.dmaCredit
theorem N_pos : 0 < N := View.dmaCredit_pos _ (by decide)
abbrev NT : ℕ := (tM : Memref sig .tc .vmem S2048x256 .f32).view.dmaCredit
theorem NT_pos : 0 < NT := View.dmaCredit_pos _ (by decide)

theorem credit_seg (p : Dev nD) : (segM p).view.dmaCredit = N := rfl
theorem credit_rRow (p : Dev nD) : (rRow p).view.dmaCredit = N := rfl
theorem credit_aRow (p : Dev nD) : (aRow p).view.dmaCredit = N := rfl

/-! ## The blocks tile their buffers -/

theorem mem_seg (p : Dev nD) (i : S512x256.Idx) : i ∈ segSet p ↔ (i 0).val / 64 = p.val := by
  show i ∈ ((View.whole cc0_scratch1).slice (segRect p)).set ↔ _
  rw [View.set_slice_whole]
  refine Rect.mem_set_unit.trans ?_
  have h1 : (i 1).val < 256 := (i 1).isLt
  constructor
  · intro h; have := h 0; change 64 * p.val ≤ (i 0).val ∧ (i 0).val < 64 * p.val + 64 at this; omega
  · intro h a; fin_cases a
    · show 64 * p.val ≤ (i 0).val ∧ (i 0).val < 64 * p.val + 64; omega
    · show 0 ≤ (i 1).val ∧ (i 1).val < 0 + 256; omega

theorem mem_chunk (q : Fin 4) (i : S512x256.Idx) : i ∈ chunkSet q ↔ (i 0).val / 128 = q.val := by
  show i ∈ ((View.whole cc0_scratch1).slice (chunkRect q)).set ↔ _
  rw [View.set_slice_whole]
  refine Rect.mem_set_unit.trans ?_
  have h1 : (i 1).val < 256 := (i 1).isLt
  constructor
  · intro h; have := h 0; change 128 * q.val ≤ (i 0).val ∧ (i 0).val < 128 * q.val + 128 at this; omega
  · intro h a; fin_cases a
    · show 128 * q.val ≤ (i 0).val ∧ (i 0).val < 128 * q.val + 128; omega
    · show 0 ≤ (i 1).val ∧ (i 1).val < 0 + 256; omega

theorem mem_row (b : Ref sig .tc) (s : Dev nD) (i : S8x64x256.Idx) : i ∈ (rowRect s).set ↔ (i 0).val = s.val := by
  refine Rect.mem_set_unit.trans ?_
  have h1 : (i 1).val < 64 := (i 1).isLt
  have h2 : (i 2).val < 256 := (i 2).isLt
  constructor
  · intro h; have := h 0; change s.val ≤ (i 0).val ∧ (i 0).val < s.val + 1 at this; omega
  · intro h a; fin_cases a
    · show s.val ≤ (i 0).val ∧ (i 0).val < s.val + 1; omega
    · show 0 ≤ (i 1).val ∧ (i 1).val < 0 + 64; omega
    · show 0 ≤ (i 2).val ∧ (i 2).val < 0 + 256; omega

theorem mem_rRow (s : Dev nD) (i : S8x64x256.Idx) : i ∈ rSet s ↔ (i 0).val = s.val := by
  rw [show rSet s = (rowRect s).set from (View.set_reshape _ _).trans (View.set_slice_whole _ _)]
  exact mem_row cc0_scratch3 s i
theorem mem_aRow (s : Dev nD) (i : S8x64x256.Idx) : i ∈ aSet s ↔ (i 0).val = s.val := by
  rw [show aSet s = (rowRect s).set from (View.set_reshape _ _).trans (View.set_slice_whole _ _)]
  exact mem_row cc0_scratch4 s i

theorem seg_cover : (Finset.univ : Finset (Dev nD)).biUnion (fun p => segSet p) = Finset.univ := by
  ext i
  simp only [Finset.mem_biUnion, Finset.mem_univ, true_and, iff_true]
  have h0 : (i 0).val < 512 := (i 0).isLt
  exact ⟨⟨(i 0).val / 64, by show _ < 8; omega⟩, (mem_seg _ _).mpr rfl⟩
theorem seg_disjoint {p p' : Dev nD} (h : p ≠ p') : Disjoint (segSet p) (segSet p') :=
  Finset.disjoint_left.mpr fun i hi hi' => h (Fin.ext (((mem_seg p i).mp hi).symm.trans ((mem_seg p' i).mp hi')))
theorem chunk_cover : (Finset.univ : Finset (Fin 4)).biUnion (fun q => chunkSet q) = Finset.univ := by
  ext i
  simp only [Finset.mem_biUnion, Finset.mem_univ, true_and, iff_true]
  have h0 : (i 0).val < 512 := (i 0).isLt
  exact ⟨⟨(i 0).val / 128, by omega⟩, (mem_chunk _ _).mpr rfl⟩
theorem chunk_disjoint {p p' : Fin 4} (h : p ≠ p') : Disjoint (chunkSet p) (chunkSet p') :=
  Finset.disjoint_left.mpr fun i hi hi' => h (Fin.ext (((mem_chunk p i).mp hi).symm.trans ((mem_chunk p' i).mp hi')))
/-- A chunk is the rows of the two devices of its pair. -/
theorem chunk_eq (q : Fin 4) (a b : Dev nD) (ha : a.val / 2 = q.val) (hb : b.val / 2 = q.val) (hab : a ≠ b) :
    chunkSet q = segSet a ∪ segSet b := by
  ext i
  rw [Finset.mem_union]
  refine (mem_chunk q i).trans (Iff.trans ?_ (or_congr (mem_seg a i) (mem_seg b i)).symm)
  have : a.val ≠ b.val := fun h => hab (Fin.ext h)
  omega
theorem rRow_cover : (Finset.univ : Finset (Dev nD)).biUnion (fun p => rSet p) = Finset.univ := by
  ext i
  simp only [Finset.mem_biUnion, Finset.mem_univ, true_and, iff_true]
  exact ⟨⟨(i 0).val, (i 0).isLt⟩, (mem_rRow _ _).mpr rfl⟩
theorem rRow_disjoint {p p' : Dev nD} (h : p ≠ p') : Disjoint (rSet p) (rSet p') :=
  Finset.disjoint_left.mpr fun i hi hi' => h (Fin.ext (((mem_rRow p i).mp hi).symm.trans ((mem_rRow p' i).mp hi')))
theorem aRow_cover : (Finset.univ : Finset (Dev nD)).biUnion (fun p => aSet p) = Finset.univ := by
  ext i
  simp only [Finset.mem_biUnion, Finset.mem_univ, true_and, iff_true]
  exact ⟨⟨(i 0).val, (i 0).isLt⟩, (mem_aRow _ _).mpr rfl⟩
theorem aRow_disjoint {p p' : Dev nD} (h : p ≠ p') : Disjoint (aSet p) (aSet p') :=
  Finset.disjoint_left.mpr fun i hi hi' => h (Fin.ext (((mem_aRow p i).mp hi).symm.trans ((mem_aRow p' i).mp hi')))

end Cert.Gather

end
-- ==== Proof.Gather.Offsets.lean ====
/- The kernel's printed device numbers and offsets, in the terms of `Geometry`: each is checked on the eight devices. -/
module

public import proofs.«01_k».proof.Proof.Gather.Geometry

@[expose] public section

noncomputable section

namespace Cert.Gather

open Cert.KernelIdeal Cert.KernelIdeal.Gen
open Idealize.ShloMosaic

theorem dev1 (c : Dev nD) : (⟨k0_dev1 c, k0_dev1_lt c⟩ : Dev nD) = nx c 1 := by revert c; decide
theorem dev2 (c : Dev nD) : (⟨k0_dev2 c, k0_dev2_lt c⟩ : Dev nD) = nx c 2 := by revert c; decide
theorem dev3 (c : Dev nD) : (⟨k0_dev3 c, k0_dev3_lt c⟩ : Dev nD) = nx c 3 := by revert c; decide
theorem dev4 (c : Dev nD) : (⟨k0_dev4 c, k0_dev4_lt c⟩ : Dev nD) = nx c 4 := by revert c; decide
theorem dev5 (c : Dev nD) : (⟨k0_dev5 c, k0_dev5_lt c⟩ : Dev nD) = nx c 5 := by revert c; decide
theorem dev6 (c : Dev nD) : (⟨k0_dev6 c, k0_dev6_lt c⟩ : Dev nD) = nx c 6 := by revert c; decide
theorem dev7 (c : Dev nD) : (⟨k0_dev7 c, k0_dev7_lt c⟩ : Dev nD) = nx c 7 := by revert c; decide
theorem ids0 (c : Dev nD) : k0_off1 c 0#32 = ![128 * (chunkOf c 0).val] := by revert c; decide
theorem chunk0 (c : Dev nD) : k0_off2 c 0#32 = ![128 * (chunkOf c 0).val, 0] := by revert c; decide
theorem ids1 (c : Dev nD) : k0_off1 c 1#32 = ![128 * (chunkOf c 1).val] := by revert c; decide
theorem chunk1 (c : Dev nD) : k0_off2 c 1#32 = ![128 * (chunkOf c 1).val, 0] := by revert c; decide
theorem ids2 (c : Dev nD) : k0_off1 c 2#32 = ![128 * (chunkOf c 2).val] := by revert c; decide
theorem chunk2 (c : Dev nD) : k0_off2 c 2#32 = ![128 * (chunkOf c 2).val, 0] := by revert c; decide
theorem ids3 (c : Dev nD) : k0_off1 c 3#32 = ![128 * (chunkOf c 3).val] := by revert c; decide
theorem chunk3 (c : Dev nD) : k0_off2 c 3#32 = ![128 * (chunkOf c 3).val, 0] := by revert c; decide
theorem semEven0 (c : Dev nD) : k0_off3 c 0#32 = ![(evenOf (chunkOf c 0)).val] := by revert c; decide
theorem segEven0 (c : Dev nD) : k0_off6 c 0#32 = ![64 * (evenOf (chunkOf c 0)).val, 0] := by revert c; decide
theorem devEven0 (c : Dev nD) : (⟨k0_dev8 c, k0_dev8_lt c⟩ : Dev nD) = evenOf (chunkOf c 0) := by revert c; decide
theorem semOdd0 (c : Dev nD) : k0_off7 c 0#32 = ![(oddOf (chunkOf c 0)).val] := by revert c; decide
theorem segOdd0 (c : Dev nD) : k0_off8 c 0#32 = ![64 * (oddOf (chunkOf c 0)).val, 0] := by revert c; decide
theorem devOdd0 (c : Dev nD) : (⟨k0_dev9 c, k0_dev9_lt c⟩ : Dev nD) = oddOf (chunkOf c 0) := by revert c; decide
theorem semEven1 (c : Dev nD) : k0_off3 c 1#32 = ![(evenOf (chunkOf c 1)).val] := by revert c; decide
theorem segEven1 (c : Dev nD) : k0_off6 c 1#32 = ![64 * (evenOf (chunkOf c 1)).val, 0] := by revert c; decide
theorem devEven1 (c : Dev nD) : (⟨k0_dev10 c, k0_dev10_lt c⟩ : Dev nD) = evenOf (chunkOf c 1) := by revert c; decide
theorem semOdd1 (c : Dev nD) : k0_off7 c 1#32 = ![(oddOf (chunkOf c 1)).val] := by revert c; decide
theorem segOdd1 (c : Dev nD) : k0_off8 c 1#32 = ![64 * (oddOf (chunkOf c 1)).val, 0] := by revert c; decide
theorem devOdd1 (c : Dev nD) : (⟨k0_dev11 c, k0_dev11_lt c⟩ : Dev nD) = oddOf (chunkOf c 1) := by revert c; decide
theorem semEven2 (c : Dev nD) : k0_off3 c 2#32 = ![(evenOf (chunkOf c 2)).val] := by revert c; decide
theorem segEven2 (c : Dev nD) : k0_off6 c 2#32 = ![64 * (evenOf (chunkOf c 2)).val, 0] := by revert c; decide
theorem devEven2 (c : Dev nD) : (⟨k0_dev12 c, k0_dev12_lt c⟩ : Dev nD) = evenOf (chunkOf c 2) := by revert c; decide
theorem semOdd2 (c : Dev nD) : k0_off7 c 2#32 = ![(oddOf (chunkOf c 2)).val] := by revert c; decide
theorem segOdd2 (c : Dev nD) : k0_off8 c 2#32 = ![64 * (oddOf (chunkOf c 2)).val, 0] := by revert c; decide
theorem devOdd2 (c : Dev nD) : (⟨k0_dev13 c, k0_dev13_lt c⟩ : Dev nD) = oddOf (chunkOf c 2) := by revert c; decide
theorem semSelf (c : Dev nD) : k0_off4 c = ![c.val] := by revert c; decide
theorem rowSelf (c : Dev nD) : k0_off5 c = ![c.val, 0, 0] := by revert c; decide
theorem segSelf (c : Dev nD) : k0_off9 c = ![64 * c.val, 0] := by revert c; decide
theorem rowSelf' (c : Dev nD) : k0_off10 c = ![c.val, 0, 0] := by revert c; decide
theorem semPair (c : Dev nD) : k0_off11 c = ![(pair c).val] := by revert c; decide
theorem segPair (c : Dev nD) : k0_off12 c = ![64 * (pair c).val, 0] := by revert c; decide
theorem devPair (c : Dev nD) : (⟨k0_dev14 c, k0_dev14_lt c⟩ : Dev nD) = pair c := by revert c; decide
theorem segSelf' (c : Dev nD) : k0_off15 c = ![64 * c.val, 0] := by revert c; decide
theorem semNx1 (c : Dev nD) : k0_off13 c 1#32 = ![(nx c 1).val] := by revert c; decide
theorem rowNx1 (c : Dev nD) : k0_off14 c 1#32 = ![(nx c 1).val, 0, 0] := by revert c; decide
theorem devNx1 (c : Dev nD) : (⟨k0_dev15 c, k0_dev15_lt c⟩ : Dev nD) = nx c 1 := by revert c; decide
theorem semNx2 (c : Dev nD) : k0_off13 c 2#32 = ![(nx c 2).val] := by revert c; decide
theorem rowNx2 (c : Dev nD) : k0_off14 c 2#32 = ![(nx c 2).val, 0, 0] := by revert c; decide
theorem devNx2 (c : Dev nD) : (⟨k0_dev16 c, k0_dev16_lt c⟩ : Dev nD) = nx c 2 := by revert c; decide
theorem semNx3 (c : Dev nD) : k0_off13 c 3#32 = ![(nx c 3).val] := by revert c; decide
theorem rowNx3 (c : Dev nD) : k0_off14 c 3#32 = ![(nx c 3).val, 0, 0] := by revert c; decide
theorem devNx3 (c : Dev nD) : (⟨k0_dev17 c, k0_dev17_lt c⟩ : Dev nD) = nx c 3 := by revert c; decide
theorem semNx4 (c : Dev nD) : k0_off13 c 4#32 = ![(nx c 4).val] := by revert c; decide
theorem rowNx4 (c : Dev nD) : k0_off14 c 4#32 = ![(nx c 4).val, 0, 0] := by revert c; decide
theorem devNx4 (c : Dev nD) : (⟨k0_dev18 c, k0_dev18_lt c⟩ : Dev nD) = nx c 4 := by revert c; decide
theorem semNx5 (c : Dev nD) : k0_off13 c 5#32 = ![(nx c 5).val] := by revert c; decide
theorem rowNx5 (c : Dev nD) : k0_off14 c 5#32 = ![(nx c 5).val, 0, 0] := by revert c; decide
theorem devNx5 (c : Dev nD) : (⟨k0_dev19 c, k0_dev19_lt c⟩ : Dev nD) = nx c 5 := by revert c; decide
theorem semNx6 (c : Dev nD) : k0_off13 c 6#32 = ![(nx c 6).val] := by revert c; decide
theorem rowNx6 (c : Dev nD) : k0_off14 c 6#32 = ![(nx c 6).val, 0, 0] := by revert c; decide
theorem devNx6 (c : Dev nD) : (⟨k0_dev20 c, k0_dev20_lt c⟩ : Dev nD) = nx c 6 := by revert c; decide
theorem semNx7 (c : Dev nD) : k0_off13 c 7#32 = ![(nx c 7).val] := by revert c; decide
theorem rowNx7 (c : Dev nD) : k0_off14 c 7#32 = ![(nx c 7).val, 0, 0] := by revert c; decide
theorem devNx7 (c : Dev nD) : (⟨k0_dev21 c, k0_dev21_lt c⟩ : Dev nD) = nx c 7 := by revert c; decide

/-! ## Peers and pairs -/

theorem nx_ne (c : Dev nD) (k : Fin 7) : nx c (k.val + 1) ≠ c := by revert c k; decide
theorem even_ne (c : Dev nD) (r : Fin 3) : evenOf (chunkOf c r.val) ≠ c := by revert c r; decide
theorem odd_ne (c : Dev nD) (r : Fin 3) : oddOf (chunkOf c r.val) ≠ c := by revert c r; decide
theorem pair_ne (c : Dev nD) : pair c ≠ c := by revert c; decide
theorem even_half (q : Fin 4) : (evenOf q).val / 2 = q.val := by revert q; decide
theorem odd_half (q : Fin 4) : (oddOf q).val / 2 = q.val := by revert q; decide
theorem even_ne_odd (q : Fin 4) : evenOf q ≠ oddOf q := by revert q; decide
theorem self_half (c : Dev nD) : c.val / 2 = (chunkOf c 3).val := by revert c; decide
theorem pair_half (c : Dev nD) : (pair c).val / 2 = (chunkOf c 3).val := by revert c; decide
theorem chunkOf_nodup (c : Dev nD) : [chunkOf c 0, chunkOf c 1, chunkOf c 2, chunkOf c 3].Nodup := by revert c; decide
theorem chunkOf_set (c : Dev nD) : [chunkOf c 0, chunkOf c 1, chunkOf c 2, chunkOf c 3].toFinset = Finset.univ := by revert c; decide

end Cert.Gather

end
-- ==== Proof.Gather.Contents.lean ====
/- What the kernel's buffers hold: every value that is stored or travels, as a function of the contents of the two
   arguments on all the devices. -/
module

public import proofs.«01_k».proof.Proof.Gather.Geometry
public import Idealize.ShloMosaic.Lib.Pipeline.Value
public import Idealize.ShloMosaic.Lib.ValueIdxCore

@[expose] public section

noncomputable section

namespace Cert.Gather

open Cert.KernelIdeal Cert.KernelIdeal.Gen

open Idealize.ShloMosaic
open Idealize.ShloMosaic.TcCoe
open Idealize.ShloMosaic.ValueIdx (ix2)

variable {F : FTy → Type} [FloatOps F]

variable (m : (ℓ : Loc nD τ sig) → Buf (Elt F) ℓ)

/-- The place of a device among the shards of the table, as the kernel computes it. -/
def place (c : Dev nD) : BitVec 32 := Scalar.remsi (Scalar.divsi (Dev.word c) 1#32) 8#32

/-- Device `c`'s block of the table, and its copy of the indices. -/
def tabV (c : Dev nD) : (cc0_scratch0 : Ref sig .tc).ty.Contents (Elt F) := m ((c : Thread nD τ).loc main_arg0)
def idxV (c : Dev nD) : (cc0_stg0_0 : Ref sig .tc).ty.Contents (Elt F) :=
  (win0_0.blk (0 : Fin 1)).view.read (Elt F) (m ((c : Thread nD τ).loc main_arg1))

/-- The 128 indices of pair `q`. -/
def idsV (c : Dev nD) (q : Fin 4) : Vec F S128 .i32 := xM.view.readAt (Elt F) (idsRect q).toLoadRect (idxV m c)

/-- Device `c`'s partial result for pair `q`: its own rows of the table at the indices that name them, zero elsewhere. -/
def partB (c : Dev nD) (q : Fin 4) : FVec F S128x256 .bf16 := k0_pay2 (place c) (tabV m c) (idsV m c q)

/-- Device `c`'s whole partial result. -/
def partV (c : Dev nD) : (cc0_scratch1 : Ref sig .tc).ty.Contents (Elt F) := fun i =>
  partB m c ⟨(i 0).val / 128, Nat.div_lt_of_lt_mul (show (i 0).val < 128 * 4 from (i 0).isLt)⟩
    (ix2 (⟨(i 0).val % 128, Nat.mod_lt _ (by decide)⟩ : Fin 128) (⟨(i 1).val, (i 1).isLt⟩ : Fin 256))

/-- What device `s` has for device `d`: rows `64 d … 64 d + 63` of its partial result. -/
def shareV (s d : Dev nD) : Vec F S64x256 .bf16 := (segM d).view.read (Elt F) (partV m s)

/-- A block as one row of a landing buffer. -/
def row1 (v : Vec F S64x256 .bf16) : Vec F S1x64x256 .bf16 := shapeCast S1x64x256 v shapeCasts_S64x256_S1x64x256

/-- The sum that device `d` forms of what the eight devices have for it. -/
def sumV (d : Dev nD) : FVec F S64x256 .bf16 :=
  k0_pay9 (k0_pay8 (row1 (shareV m 0 d)) (row1 (shareV m 1 d)) (row1 (shareV m 2 d)) (row1 (shareV m 3 d)) (row1 (shareV m 4 d)))
    (row1 (shareV m 5 d)) (row1 (shareV m 6 d)) (row1 (shareV m 7 d))

/-- The result: the eight sums below one another. -/
def outV : (cc0_stg1_0 : Ref sig .tc).ty.Contents (Elt F) := fun i =>
  sumV m ⟨(i 0).val / 64, Nat.div_lt_of_lt_mul (show (i 0).val < 64 * 8 from (i 0).isLt)⟩
    (ix2 (⟨(i 0).val % 64, Nat.mod_lt _ (by decide)⟩ : Fin 64) (⟨(i 1).val, (i 1).isLt⟩ : Fin 256))

/-! ## Stores and loads through the blocks -/

omit [FloatOps F] in
/-- What a load of row `s` of the first landing buffer reads. -/
theorem read_rRow (s : Dev nD) (f : (cc0_scratch3 : Ref sig .tc).ty.Contents (Elt F)) {v : Vec F S64x256 .bf16}
    (h : (rRow s).view.read (Elt F) f = v) : rM.view.readAt (Elt F) (rowRect s).toLoadRect f = row1 v := by
  rw [← h]; exact (shapeCast_shapeCast _ shapeCasts_S1x64x256_S64x256 shapeCasts_S64x256_S1x64x256).symm
omit [FloatOps F] in
theorem read_aRow (s : Dev nD) (f : (cc0_scratch4 : Ref sig .tc).ty.Contents (Elt F)) {v : Vec F S64x256 .bf16}
    (h : (aRow s).view.read (Elt F) f = v) : aM.view.readAt (Elt F) (rowRect s).toLoadRect f = row1 v := by
  rw [← h]; exact (shapeCast_shapeCast _ shapeCasts_S1x64x256_S64x256 shapeCasts_S64x256_S1x64x256).symm

omit [FloatOps F] in
/-- A block stored as row `s` is read back there. -/
theorem write_rRow (s : Dev nD) (f : (cc0_scratch3 : Ref sig .tc).ty.Contents (Elt F)) (v : Vec F S64x256 .bf16) :
    (rRow s).view.read (Elt F) ((rM.access (rowRect s)).write (Elt F) f (row1 v) Finset.univ) = v := by
  show shapeCast S64x256 ((rM.access (rowRect s)).read (Elt F) ((rM.access (rowRect s)).write (Elt F) f (row1 v) Finset.univ)) shapeCasts_S1x64x256_S64x256 = v
  rw [View.read_write_univ]; exact shapeCast_shapeCast _ _ _
omit [FloatOps F] in
theorem write_aRow (s : Dev nD) (f : (cc0_scratch4 : Ref sig .tc).ty.Contents (Elt F)) (v : Vec F S64x256 .bf16) :
    (aRow s).view.read (Elt F) ((aM.access (rowRect s)).write (Elt F) f (row1 v) Finset.univ) = v := by
  show shapeCast S64x256 ((aM.access (rowRect s)).read (Elt F) ((aM.access (rowRect s)).write (Elt F) f (row1 v) Finset.univ)) shapeCasts_S1x64x256_S64x256 = v
  rw [View.read_write_univ]; exact shapeCast_shapeCast _ _ _

/-- After the store of pair `q`'s rows the partial result is in place there. -/
theorem write_chunk (c : Dev nD) (q : Fin 4) (f : (cc0_scratch1 : Ref sig .tc).ty.Contents (Elt F)) (i : S512x256.Idx) (hi : i ∈ chunkSet q) :
    (pM.access (chunkRect q)).write (Elt F) f (partB m c q) Finset.univ i = partV m c i := by
  obtain ⟨j, rfl⟩ := View.exists_emb_of_mem_set (chunkM q).view hi
  refine (View.write_emb_of_mem (v := pM.access (chunkRect q)) f (partB m c q) (Finset.mem_univ j)).trans ?_
  have hj0 : (j 0).val < 128 := (j 0).isLt
  have e0 : (((chunkM q).view.emb j : S512x256.Idx) 0).val = 128 * q.val + (j 0).val := by
    show 128 * q.val + 1 * (j 0).val = _; omega
  have e1 : (((chunkM q).view.emb j : S512x256.Idx) 1).val = (j 1).val := by
    show 0 + 1 * (j 1).val = _; omega
  show partB m c q j = partB m c _ _
  congr 1
  · exact Fin.ext (by show q.val = _ / 128; rw [e0]; omega)
  · funext a
    match a with
    | ⟨0, _⟩ => exact Fin.ext (by show (j 0).val = _ % 128; rw [e0]; omega)
    | ⟨1, _⟩ => exact Fin.ext (by show (j 1).val = _; exact e1.symm)

theorem out_inb (s : Dev nD) : ∀ a, (![64 * s.val, 0] : Fin 2 → ℕ) a + S64x256.size a ≤ S512x256.size a := seg_inb s

/-- Storing device `s`'s sum at its rows extends the finished rows of the result by these. -/
theorem write_out (s : Dev nD) (f : (cc0_stg1_0 : Ref sig .tc).ty.Contents (Elt F))
    (hf : ∀ i : S512x256.Idx, (i 0).val / 64 < s.val → f i = outV m i) (i : S512x256.Idx) (hi : (i 0).val / 64 < s.val + 1) :
    (oM.access (segRect s)).write (Elt F) f (sumV m s) Finset.univ i = outV m i := by
  by_cases h : (i 0).val / 64 < s.val
  · rw [View.write_of_not_mem, hf i h]
    rw [View.setOn_univ]
    intro hm
    have : i ∈ segSet s := by
      rw [show (oM.access (segRect s)).set = (segRect s).set from View.set_slice_whole _ _] at hm
      show i ∈ ((View.whole cc0_scratch1).slice (segRect s)).set
      rw [View.set_slice_whole]; exact hm
    have := (mem_seg s i).mp this
    omega
  · have hm : i ∈ (oM.access (segRect s)).set := by
      rw [show (oM.access (segRect s)).set = (segRect s).set from View.set_slice_whole _ _]
      have : i ∈ segSet s := (mem_seg s i).mpr (by omega)
      change i ∈ ((View.whole cc0_scratch1).slice (segRect s)).set at this
      rw [View.set_slice_whole] at this; exact this
    obtain ⟨j, rfl⟩ := View.exists_emb_of_mem_set (oM.access (segRect s)) hm
    refine (View.write_emb_of_mem (v := oM.access (segRect s)) f (sumV m s) (Finset.mem_univ j)).trans ?_
    have hj0 : (j 0).val < 64 := (j 0).isLt
    have e0 : (((oM.access (segRect s)).emb j : S512x256.Idx) 0).val = 64 * s.val + (j 0).val := by
      show 64 * s.val + 1 * (j 0).val = _; omega
    have e1 : (((oM.access (segRect s)).emb j : S512x256.Idx) 1).val = (j 1).val := by
      show 0 + 1 * (j 1).val = _; omega
    show sumV m s j = sumV m _ _
    congr 1
    · exact Fin.ext (by show s.val = _ / 64; rw [e0]; omega)
    · funext a
      match a with
      | ⟨0, _⟩ => exact Fin.ext (by show (j 0).val = _ % 64; rw [e0]; omega)
      | ⟨1, _⟩ => exact Fin.ext (by show (j 1).val = _; exact e1.symm)

end Cert.Gather

end
-- ==== Proof.Gather.Protocol.lean ====
/- The protocol of the kernel: one round of every semaphore — who pays it, how much, and what the payment hands over —,
   the order of the waits, and what each device starts from and ends with.

   * The barrier semaphore of `c`: each other device `d` pays one unit, and with it hands `c` the rows of its two landing
     buffers that `c` is to fill.
   * Family 1 (`xsem 1 s` of `c`): device `s`'s copy pays the block's credit, and hands over row `s` of `c`'s first
     landing buffer, filled with what `s` has for `c`. Family 0 (`xsem 0 p` of `c`): the same copy gives `c` its source
     back.
   * Family 3 and family 2: the same for the sums and the second landing buffer.
   * The table's semaphore: the local copy of the table. -/
module

public import proofs.«01_k».proof.Proof.Gather.Contents
public import Idealize.ShloMosaic.Lib.Transfers

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: any contents, every semaphore at zero. -/
def s₀ : MemSt nD τ sig (Elt F) := ⟨m, fun _ => 0, ρ⟩

/-! ## Cells -/

abbrev barC (c : Dev nD) : GSem nD τ sig := ((c : Thread nD τ), .reg barS)
abbrev xC (c : Dev nD) (a : Fin 4) (p : Dev nD) : GSem nD τ sig := ((c : Thread nD τ), .dma (xsem a p))
abbrev tabC (c : Dev nD) : GSem nD τ sig := ((c : Thread nD τ), .dma tabS)

/-- The family and the peer of a DMA semaphore of the two exchanges. -/
def decode (q : DmaSem sig) : Option (Fin 4 × Dev nD) :=
  if h : 2 ≤ q.val ∧ q.val < 34 then some (⟨(q.val - 2) / 8, by omega⟩, ⟨(q.val - 2) % 8, by show _ < 8; omega⟩) else none

theorem decode_xsem (a : Fin 4) (p : Dev nD) : decode (xsem a p) = some (a, p) := by revert a p; decide
theorem decode_tabS : decode tabS = none := by decide
theorem xsem_ne_tabS (a : Fin 4) (p : Dev nD) : xsem a p ≠ tabS := by revert a p; decide

/-- The kernel's semaphores on one device: the scoped ones first, in the order of the signature, then the barrier. -/
abbrev osem : Fin 33 → SemLoc sig := fun j => .dma ⟨2 + j.val, by have := j.isLt; show _ < 35; omega⟩
def csem (j : Fin 34) : SemLoc sig := if h : j.val < 33 then osem ⟨j.val, h⟩ else .reg barS
abbrev kcell (cj : Dev nD × Fin 34) : GSem nD τ sig := ((cj.1 : Thread nD τ), csem cj.2)

def xj (a : Fin 4) (p : Dev nD) : Fin 34 := ⟨8 * a.val + p.val, by have := a.isLt; have : p.val < 8 := p.isLt; omega⟩
theorem csem_xj (a : Fin 4) (p : Dev nD) : csem (xj a p) = .dma (xsem a p) := by revert a p; decide
theorem csem_tab : csem 32 = .dma tabS := by decide
theorem csem_bar : csem 33 = .reg barS := by decide

/-! ## The schedule -/

/-- Row `s` of a landing buffer on device `d`, with any contents. -/
def rAny (d s : Dev nD) : sProp 𝕄 := iprop(∃ f, (rRow s).view.loc (d : Thread nD τ) ↦[rSet s]{fullShare} f)
def aAny (d s : Dev nD) : sProp 𝕄 := iprop(∃ f, (aRow s).view.loc (d : Thread nD τ) ↦[aSet s]{fullShare} f)
/-- Device `d`'s payment on `c`'s barrier: the two rows of `d` that `c` fills. -/
def barPay (c d : Dev nD) : sProp 𝕄 :=
  iprop(rAny d c ∗ aAny d c)
/-- The rows of `c`'s partial result that go to `p`, computed. -/
def segPts (c p : Dev nD) : sProp 𝕄 := (segM p).view.loc (c : Thread nD τ) ↦[segSet p]{fullShare} partV m c
/-- Row `s` of `c`'s first landing buffer, filled. -/
def rPts (c s : Dev nD) : sProp 𝕄 := owns (c : Thread nD τ) (rRow s) fullShare (shareV m s c)
/-- Row `s` of `c`'s second landing buffer, filled. -/
def aPts (c s : Dev nD) : sProp 𝕄 := owns (c : Thread nD τ) (aRow s) fullShare (sumV m s)
/-- The share of `c`'s sum that its copy to `p` reads. -/
def gPts (c p : Dev nD) : sProp 𝕄 :=
  gM.view.loc (c : Thread nD τ) ↦[(gM : Memref sig .tc .vmem S64x256 .bf16).view.set]{Transfers.dealOf fullShare (Finset.univ.erase c) p} (sumV m c : (cc0_scratch2 : Ref sig .tc).ty.Contents (Elt F))
/-- The table copied in, and the argument it came from. -/
def tabPay (c : Dev nD) : sProp 𝕄 :=
  iprop((tM.view.loc (c : Thread nD τ) ↦[(tM : Memref sig .tc .vmem S2048x256 .f32).view.set]{fullShare} tabV m c)
    ∗ (hM.view.loc (c : Thread nD τ) ↦[(hM : Memref sig .tc .hbm S2048x256 .f32).view.set]{fullShare} m ((c : Thread nD τ).loc main_arg0)))

/-- What a landing on a semaphore of the exchanges hands over. -/
def xPay (c : Dev nD) (a : Fin 4) (p : Dev nD) : sProp 𝕄 := match a with
  | ⟨0, _⟩ => segPts m c p
  | ⟨1, _⟩ => rPts m c p
  | ⟨2, _⟩ => gPts m c p
  | ⟨3, _⟩ => aPts m c p

def dutiesOf (c : Dev nD) (sm : SemLoc sig) : Finset (Dev nD) := match sm with
  | .reg _ => Finset.univ.erase c
  | .dma q => match decode q with
    | some (_, p) => if p = c then ∅ else {p}
    | none => if q = tabS then {c} else ∅
def amountOf (sm : SemLoc sig) : ℕ := match sm with
  | .reg _ => 1
  | .dma q => if q = tabS then NT else N
def payOf (c : Dev nD) (sm : SemLoc sig) (d : Dev nD) : sProp 𝕄 := match sm with
  | .reg _ => barPay c d
  | .dma q => match decode q with
    | some (a, p) => xPay m c a p
    | none => tabPay m c

theorem amountOf_pos (sm : SemLoc sig) : 0 < amountOf sm := by
  cases sm with
  | reg _ => exact Nat.one_pos
  | dma q =>
    show 0 < if q = tabS then NT else N
    split
    · exact NT_pos
    · exact N_pos

/-- The one round of every cell. -/
def rd : Schedule (GSem nD τ sig) (Dev nD) 𝕄 where
  duties g r := if r = 0 ∧ g.1.2 = .tc then dutiesOf g.1.1 g.2 else ∅
  unitless _ := False
  amount g _ _ := amountOf g.2
  payload g _ d := payOf m g.1.1 g.2 d
  amount_pos g _ _ _ := amountOf_pos g.2

instance rAny_storable (d s : Dev nD) : BI.Storable (upEmb : UEmb _ 𝕄) (rAny d s) := by unfold rAny; infer_instance
instance aAny_storable (d s : Dev nD) : BI.Storable (upEmb : UEmb _ 𝕄) (aAny d s) := by unfold aAny; infer_instance
instance barPay_storable (c d : Dev nD) : BI.Storable (upEmb : UEmb _ 𝕄) (barPay c d) := by unfold barPay; infer_instance
instance xPay_storable (c : Dev nD) (a : Fin 4) (p : Dev nD) : BI.Storable (upEmb : UEmb _ 𝕄) (xPay m c a p) := by
  match a with
  | ⟨0, _⟩ => show BI.Storable upEmb (segPts m c p); unfold segPts; infer_instance
  | ⟨1, _⟩ => show BI.Storable upEmb (rPts m c p); unfold rPts; infer_instance
  | ⟨2, _⟩ => show BI.Storable upEmb (gPts m c p); unfold gPts; infer_instance
  | ⟨3, _⟩ => show BI.Storable upEmb (aPts m c p); unfold aPts; infer_instance
instance tabPay_storable (c : Dev nD) : BI.Storable (upEmb : UEmb _ 𝕄) (tabPay m c) := by unfold tabPay; infer_instance
instance payOf_storable (c : Dev nD) (sm : SemLoc sig) (d : Dev nD) : BI.Storable (upEmb : UEmb _ 𝕄) (payOf m c sm d) := by
  unfold payOf; (repeat' split) <;> infer_instance
instance rd_storable (g : GSem nD τ sig) (r : ℕ) (d : Dev nD) : BI.Storable (upEmb : UEmb _ 𝕄) ((rd m).payload g r d) :=
  inferInstanceAs (BI.Storable upEmb (payOf m g.1.1 g.2 d))

section Sched
variable (c : Dev nD)

theorem duties_tc (sm : SemLoc sig) : (rd m).duties ((c : Thread nD τ), sm) 0 = dutiesOf c sm := by dsimp only [rd]; exact if_pos ⟨rfl, rfl⟩
theorem duties_bar : (rd m).duties (barC c) 0 = Finset.univ.erase c := duties_tc m c _
theorem duties_x (a : Fin 4) {p : Dev nD} (h : p ≠ c) : (rd m).duties (xC c a p) 0 = {p} := by
  rw [duties_tc]; show (match decode (xsem a p) with | some (_, p) => if p = c then ∅ else {p} | none => _) = _
  rw [decode_xsem]; exact if_neg h
theorem duties_tab : (rd m).duties (tabC c) 0 = {c} := by
  rw [duties_tc]; show (match decode tabS with | some (_, p) => if p = c then ∅ else {p} | none => _) = _
  rw [decode_tabS]; show (if tabS = tabS then {c} else ∅ : Finset (Dev nD)) = _; exact if_pos rfl
theorem duties_later (g : GSem nD τ sig) : ∀ r, 1 ≤ r → (rd m).duties g r = ∅ :=
  fun r hr => by dsimp only [rd]; exact if_neg fun h => by have := h.1; omega
/-- A device has no semaphore for itself: that one is never paid. -/
theorem duties_self (a : Fin 4) : ∀ r, 0 ≤ r → (rd m).duties (xC c a c) r = ∅ := fun r hr => by
  by_cases h : r = 0
  · subst h; rw [duties_tc]; show (match decode (xsem a c) with | some (_, p) => if p = c then ∅ else {p} | none => _) = _
    rw [decode_xsem]; exact if_pos rfl
  · exact duties_later m _ r (Nat.pos_of_ne_zero h)

theorem amount_bar (d : Dev nD) : (rd m).amount (barC c) 0 d = 1 := rfl
theorem amount_x (a : Fin 4) (p d : Dev nD) : (rd m).amount (xC c a p) 0 d = N := by dsimp only [rd, amountOf]; exact if_neg (xsem_ne_tabS a p)
theorem amount_tab (d : Dev nD) : (rd m).amount (tabC c) 0 d = NT := by dsimp only [rd, amountOf]; exact if_pos rfl

theorem expect_bar : (rd m).expect (barC c) 0 = 7 := by
  unfold Schedule.expect Schedule.amountOf
  rw [duties_bar, Finset.sum_congr rfl fun d _ => amount_bar m c d, Finset.sum_const, Finset.card_erase_of_mem (Finset.mem_univ c)]
  rfl
theorem expect_x (a : Fin 4) {p : Dev nD} (h : p ≠ c) : (rd m).expect (xC c a p) 0 = N := by
  unfold Schedule.expect Schedule.amountOf; rw [duties_x m c a h, Finset.sum_singleton, amount_x]
theorem expect_tab : (rd m).expect (tabC c) 0 = NT := by
  unfold Schedule.expect Schedule.amountOf; rw [duties_tab, Finset.sum_singleton, amount_tab]

theorem payload_bar (d : Dev nD) : (rd m).payload (barC c) 0 d = barPay c d := rfl
theorem payload_x (a : Fin 4) (p d : Dev nD) : (rd m).payload (xC c a p) 0 d = xPay m c a p := by
  show (match decode (xsem a p) with | some (a, p) => xPay m c a p | none => tabPay m c) = _
  rw [decode_xsem]
theorem payload_tab (d : Dev nD) : (rd m).payload (tabC c) 0 d = tabPay m c := by
  show (match decode tabS with | some (a, p) => xPay m c a p | none => tabPay m c) = _
  rw [decode_tabS]

theorem rest_bar : bigSep ((rd m).duties (barC c) 0 \ ∅) (fun d => (rd m).payload (barC c) 0 d) = bigSep (Finset.univ.erase c) (fun d => barPay c d) := by
  rw [Finset.sdiff_empty, duties_bar]; rfl
theorem rest_x (a : Fin 4) {p : Dev nD} (h : p ≠ c) :
    bigSep ((rd m).duties (xC c a p) 0 \ ∅) (fun d => (rd m).payload (xC c a p) 0 d) = xPay m c a p := by
  rw [Finset.sdiff_empty, duties_x m c a h, bigSep_singleton, payload_x]
theorem rest_tab : bigSep ((rd m).duties (tabC c) 0 \ ∅) (fun d => (rd m).payload (tabC c) 0 d) = tabPay m c := by
  rw [Finset.sdiff_empty, duties_tab, bigSep_singleton, payload_tab]

end Sched

/-! ## What a device owes, and the order of the waits -/

/-- A list of payments as a tally. -/
def owe : List (GSem nD τ sig × ℕ) → CellTallies nD τ sig Unit
  | [] => 0
  | x :: l => owe l + tallyAt x.1 () x.2

theorem owe_cons (x : GSem nD τ sig × ℕ) (l : List (GSem nD τ sig × ℕ)) : owe (x :: l) = owe l + tallyAt x.1 () x.2 := rfl
theorem owe_append (l l' : List (GSem nD τ sig × ℕ)) : owe (l ++ l') = owe l + owe l' := by
  induction l with
  | nil => exact (zero_add _).symm
  | cons x l ih => rw [List.cons_append, owe_cons, owe_cons, ih, add_right_comm]

theorem owe_pos {l : List (GSem nD τ sig × ℕ)} {g : GSem nD τ sig} {u : Unit} (h : 0 < owe l g u) : ∃ x ∈ l, g = x.1 := by
  induction l with
  | nil => exact absurd h (Nat.lt_irrefl 0)
  | cons x l ih =>
    rw [owe_cons, Pi.add_apply, Finsupp.add_apply, tallyAt_apply] at h
    by_cases hx : g = x.1 ∧ u = ()
    · exact ⟨x, List.mem_cons_self, hx.1⟩
    · rw [if_neg hx, Nat.add_zero] at h
      obtain ⟨y, hy, e⟩ := ih h
      exact ⟨y, List.mem_cons_of_mem _ hy, e⟩

/-- The payments of device `c`: to the seven barriers, of its blocks of the partial result, and of its sum. -/
def barL (c : Dev nD) : List (GSem nD τ sig × ℕ) := (ringOrder c).map fun p => (barC p, 1)
def rsL (c : Dev nD) : List (GSem nD τ sig × ℕ) := (sendOrder c).map fun p => (xC p 1 c, N)
def agL (c : Dev nD) : List (GSem nD τ sig × ℕ) := (ringOrder c).map fun p => (xC p 3 c, N)
def O₀ (c : Dev nD) : CellTallies nD τ sig Unit := owe (barL c ++ (rsL c ++ agL c))

def L (g : GSem nD τ sig) : Finset Unit := if g.1.2 = .tc then {()} else ∅
def lvOf (sm : SemLoc sig) : ℕ := match sm with
  | .reg _ => 1
  | .dma q => match decode q with
    | some (⟨1, _⟩, _) => 2
    | some (⟨3, _⟩, _) => 3
    | _ => 0
/-- The barrier is waited for before the blocks, these before the sums, and what a device waits for alone comes first. -/
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_bar : lvOf (.reg barS) = 1 := rfl
theorem lv_rs (p : Dev nD) : lvOf (.dma (xsem 1 p)) = 2 := by revert p; decide
theorem lv_ag (p : Dev nD) : lvOf (.dma (xsem 3 p)) = 3 := by revert p; decide

/-- A device may wait for a semaphore that lies below everything it still owes. -/
theorem mayWait_list (c : Dev nD) (sm : SemLoc sig) (l : List (GSem nD τ sig × ℕ))
    (h : ∀ x ∈ l, x.1.1.2 = .tc ∧ lvOf sm < lvOf x.1.2) : (levAts L lv : sProp 𝕄) ⊢ MayWait (c : Thread nD τ) sm () (owe l) :=
  MayOwe.of_cut (L := L) (lev := lv) (lvOf sm) (fun p hp => by rw [Finset.mem_singleton.mp hp, L_tc]; exact Finset.mem_singleton_self _)
    (fun g u hg => by
      obtain ⟨x, hx, rfl⟩ := owe_pos hg
      rw [show L x.1 = {()} from if_pos (h x hx).1]; exact Finset.mem_singleton_self _)
    (fun p hp => by rw [Finset.mem_singleton.mp hp]; exact le_rfl)
    (fun g u hg => by obtain ⟨x, hx, rfl⟩ := owe_pos hg; exact (h x hx).2)

theorem bar_mem {c : Dev nD} {x : GSem nD τ sig × ℕ} (h : x ∈ barL c) : x.1.1.2 = .tc ∧ lvOf x.1.2 = 1 := by
  obtain ⟨p, -, rfl⟩ := List.mem_map.mp h; exact ⟨rfl, rfl⟩
theorem rs_mem {c : Dev nD} {x : GSem nD τ sig × ℕ} (h : x ∈ rsL c) : x.1.1.2 = .tc ∧ lvOf x.1.2 = 2 := by
  obtain ⟨p, -, rfl⟩ := List.mem_map.mp h; exact ⟨rfl, lv_rs c⟩
theorem ag_mem {c : Dev nD} {x : GSem nD τ sig × ℕ} (h : x ∈ agL c) : x.1.1.2 = .tc ∧ lvOf x.1.2 = 3 := by
  obtain ⟨p, -, rfl⟩ := List.mem_map.mp h; exact ⟨rfl, lv_ag c⟩

theorem mayWait_low (c : Dev nD) (sm : SemLoc sig) (h : lvOf sm = 0) : (levAts L lv : sProp 𝕄) ⊢ MayWait (c : Thread nD τ) sm () (O₀ c) :=
  mayWait_list c sm _ fun x hx => by
    rw [h]
    rcases List.mem_append.mp hx with hx | hx
    · exact ⟨(bar_mem hx).1, by rw [(bar_mem hx).2]; decide⟩
    rcases List.mem_append.mp hx with hx | hx
    · exact ⟨(rs_mem hx).1, by rw [(rs_mem hx).2]; decide⟩
    · exact ⟨(ag_mem hx).1, by rw [(ag_mem hx).2]; decide⟩
/-- After its signals a device waits for the table and for its barrier. -/
theorem mayWait_bar (c : Dev nD) (sm : SemLoc sig) (h : lvOf sm < 2) : (levAts L lv : sProp 𝕄) ⊢ MayWait (c : Thread nD τ) sm () (owe (rsL c ++ agL c)) :=
  mayWait_list c sm _ fun x hx => by
    rcases List.mem_append.mp hx with hx | hx
    · exact ⟨(rs_mem hx).1, by rw [(rs_mem hx).2]; exact h⟩
    · exact ⟨(ag_mem hx).1, by rw [(ag_mem hx).2]; omega⟩
/-- After its blocks it waits for the others' blocks. -/
theorem mayWait_rs (c p : Dev nD) : (levAts L lv : sProp 𝕄) ⊢ MayWait (c : Thread nD τ) (.dma (xsem 1 p)) () (owe (agL c)) :=
  mayWait_list c _ _ fun x hx => ⟨(ag_mem hx).1, by rw [(ag_mem hx).2, lv_rs]; decide⟩
/-- After its sum it may wait for anything. -/
theorem mayWait_nil (c : Dev nD) (sm : SemLoc sig) : (levAts L lv : sProp 𝕄) ⊢ MayWait (c : Thread nD τ) sm () (owe []) := by
  rw [show owe [] = 0 from rfl, MayWait_zero]; iintro -; iempintro

/-! ## What a device starts from -/

/-- What all the devices know: the order of the waits, every cell's invariant, and that every cell has reached its round. -/
def recs (K : Dev nD × Fin 34 → ℕ) : sProp 𝕄 :=
  iprop(levAts L lv ∗ (bigSep Finset.univ fun cj : Dev nD × Fin 34 => cellInv ER (rd m) (K cj) (kcell cj))
    ∗ (bigSep Finset.univ fun cj : Dev nD × Fin 34 => reached ER (kcell cj) 0))

instance recs_persistent (K : Dev nD × Fin 34 → ℕ) : BI.Persistent (recs m K) := by unfold recs; infer_instance

/-- Device `c`'s place at its own cells. -/
def posns (c : Dev nD) : sProp 𝕄 :=
  iprop(atPos ER (barC c) 0 ∅ 0 ∗ atPos ER (tabC c) 0 ∅ 0 ∗ bigSep Finset.univ fun a : Fin 4 => bigSep Finset.univ fun p : Dev nD => atPos ER (xC c a p) 0 ∅ 0)
/-- The payments device `c` makes: to its peers, and to its own semaphores by its copies. -/
def peerToks (c : Dev nD) : sProp 𝕄 := bigSep (Finset.univ.erase c) fun p =>
  iprop(dutyTok ER (barC p) 0 c ∗ (dutyTok ER (xC p 1 c) 0 c ∗ dutyTok ER (xC c 0 p) 0 p) ∗ (dutyTok ER (xC p 3 c) 0 c ∗ dutyTok ER (xC c 2 p) 0 p))
/-- The credit it waits with. -/
def creds (c : Dev nD) : sProp 𝕄 :=
  iprop(cred (tallyAt (barC c) () 7) ∗ bigSep (Finset.univ.erase c) fun p => iprop(cred (tallyAt (xC c 1 p) () N) ∗ cred (tallyAt (xC c 3 p) () N)))

/-- The argument's block of the table. -/
def argPts (c : Dev nD) : sProp 𝕄 := ((c : Thread nD τ).loc main_arg0) ↦{fullShare} m ((c : Thread nD τ).loc main_arg0)

def start (c : Dev nD) : sProp 𝕄 :=
  iprop((∃ K, recs m K) ∗ posns c ∗ (dutyTok ER (tabC c) 0 c ∗ peerToks c) ∗ creds c ∗ argPts m c)

/-- The five scratch buffers, with any contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (∃ f, ((c : Thread nD τ).loc cc0_scratch4) ↦{fullShare} f))

/-- The kernel's semaphores at zero. -/
def closed (c : Dev nD) : sProp 𝕄 :=
  iprop(semVal (barC c) 0 ∗ semVal (tabC c) 0 ∗ bigSep Finset.univ fun a : Fin 4 => bigSep Finset.univ fun p : Dev nD => semVal (xC c a p) 0)

def Φ₀ (c : Dev nD) : sProp 𝕄 := iprop(start m c ∗ scratch c)
def Φ₁ (c : Dev nD) : sProp 𝕄 := iprop(scratch c ∗ closed c ∗ argPts m c)

/-- The pipeline's data: the indices are read, the result is `outV`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => idxV m c
    | ⟨1, _⟩ => outV m
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Gather

end
-- ==== Proof.Gather.Steps.lean ====
/- The kernel's single operations, each at a symbolic device: what it needs of the protocol and what it gives. The printed
   device numbers, offsets and semaphores enter as variables, with an equation to what they are. -/
module

public import proofs.«01_k».proof.Proof.Gather.Protocol

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` runs `p` and ends with `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` still has the payments `l` to make. -/
def debt (c : Dev nD) (l : List (GSem nD τ sig × ℕ)) : sProp 𝕄 := iprop(∃ W, owes (c : Thread nD τ) (owe l) W)

/-! ## The common knowledge, cell by cell -/

variable (K : Dev nD × Fin 34 → ℕ)

theorem recs_lev : recs m K ⊢ levAts L lv := by
  unfold recs; iintro ⟨H, -, -⟩; iexact H
/-- One cell of the common knowledge. -/
theorem inv_one (cj : Dev nD × Fin 34) :
    (bigSep Finset.univ fun cj : Dev nD × Fin 34 => (cellInv ER (rd m) (K cj) (kcell cj) : sProp 𝕄)) ⊢ cellInv ER (rd m) (K cj) (kcell cj) :=
  bigSep_elim (Finset.mem_univ cj)
theorem reached_one (cj : Dev nD × Fin 34) :
    (bigSep Finset.univ fun cj : Dev nD × Fin 34 => (reached ER (kcell cj) 0 : sProp 𝕄)) ⊢ reached ER (kcell cj) 0 :=
  bigSep_elim (Finset.mem_univ cj)
theorem recs_inv (cj : Dev nD × Fin 34) : recs m K ⊢ cellInv ER (rd m) (K cj) (kcell cj) := by
  unfold recs; iintro ⟨-, H, -⟩
  iapply (inv_one m K cj); iexact H
theorem recs_reached (cj : Dev nD × Fin 34) : recs m K ⊢ reached ER (kcell cj) 0 := by
  unfold recs; iintro ⟨-, -, H⟩
  iapply (reached_one cj); iexact H

theorem kcell_bar (c : Dev nD) : kcell (c, 33) = barC c := by show ((c : Thread nD τ), csem 33) = _; rw [csem_bar]
theorem kcell_tab (c : Dev nD) : kcell (c, 32) = tabC c := by show ((c : Thread nD τ), csem 32) = _; rw [csem_tab]
theorem kcell_x (c : Dev nD) (a : Fin 4) (p : Dev nD) : kcell (c, xj a p) = xC c a p := by
  show ((c : Thread nD τ), csem (xj a p)) = _; rw [csem_xj]

theorem inv_bar (c : Dev nD) : recs m K ⊢ cellInv ER (rd m) (K (c, 33)) (barC c) := by rw [← kcell_bar]; exact recs_inv m K _
theorem inv_tab (c : Dev nD) : recs m K ⊢ cellInv ER (rd m) (K (c, 32)) (tabC c) := by rw [← kcell_tab]; exact recs_inv m K _
theorem inv_x (c : Dev nD) (a : Fin 4) (p : Dev nD) : recs m K ⊢ cellInv ER (rd m) (K (c, xj a p)) (xC c a p) := by
  rw [← kcell_x]; exact recs_inv m K _
theorem reached_bar (c : Dev nD) : recs m K ⊢ reached ER (barC c) 0 := by rw [← kcell_bar]; exact recs_reached m K _
theorem reached_tab (c : Dev nD) : recs m K ⊢ reached ER (tabC c) 0 := by rw [← kcell_tab]; exact recs_reached m K _
theorem reached_x (c : Dev nD) (a : Fin 4) (p : Dev nD) : recs m K ⊢ reached ER (xC c a p) 0 := by
  rw [← kcell_x]; exact recs_reached m K _

/-! ## Signals and waits -/

/-- The signal to peer `p`'s barrier hands over the two rows of `c` that `p` fills. -/
theorem sig_step {c p n : Dev nD} (hn : n = p) (hp : p ≠ c) {l₀ l : List (GSem nD τ sig × ℕ)} (hl : l₀ = (barC p, 1) :: l) {k' : ℕ} (hk : 1 = k')
    {α : Type} {Q : α → sProp 𝕄} {k : PUnit → Prog (TpuEff nD τ sig (Elt F) Λ₀ .tc) α} :
    iprop(recs m K ∗ debt c l₀ ∗ dutyTok ER (barC p) 0 c ∗ rAny c p ∗ aAny c p)
      ⊢ iprop((debt c l -∗ WP c (k ⟨⟩) Q) -∗ WP c (.op (.semSignal (n, .tc) barS k') k) Q) := by
  subst hn hk hl
  unfold debt
  iintro ⟨#HR, ⟨%W, HO⟩, Htok, Hr, Ha⟩ Hk
  iapply (Rounds.wp_signal 𝒱₀ ER (rd m) (c : Thread nD τ) none (dst := (n : Thread nD τ)) (κ := K (n, 33)) (r := 0) (d := c)
    (by rw [duties_bar]; exact Finset.mem_erase.mpr ⟨hp.symm, Finset.mem_univ _⟩) (amount_bar m n c) () (owe l) (owe_cons (barC n, 1) l)) $$ [HO Htok Hr Ha]
  · isplitr; · iapply (inv_bar m K n); iexact HR
    isplitl [HO]; · iexact HO
    isplitl [Htok]; · iexact Htok
    isplitl [Hr Ha]
    · rw [payload_bar]; unfold barPay; isplitl [Hr] <;> iassumption
    iapply (reached_bar m K n); iexact HR
  iintro HO
  iapply Hk
  iexists W; iexact HO

/-- The wait for the barrier: every peer has handed over the rows that `c` fills. -/
theorem bar_step {c : Dev nD} {l : List (GSem nD τ sig × ℕ)} (hl : (levAts L lv : sProp 𝕄) ⊢ MayWait (c : Thread nD τ) (.reg barS) () (owe l))
    {k' : ℕ} (hk : 7 = k') {α : Type} {Q : α → sProp 𝕄} {k : PUnit → Prog (TpuEff nD τ sig (Elt F) Λ₀ .tc) α} :
    iprop(recs m K ∗ debt c l ∗ cred (tallyAt (barC c) () 7) ∗ atPos ER (barC c) 0 ∅ 0)
      ⊢ iprop(((debt c l ∗ semVal (barC c) 0 ∗ bigSep (Finset.univ.erase c) (fun d => barPay c d)) -∗ WP c (k ⟨⟩) Q)
        -∗ WP c (.op (.semWait barS k') k) Q) := by
  subst hk
  unfold debt
  iintro ⟨#HR, ⟨%W, HO⟩, Hc, Hat⟩ Hk
  iapply (Rounds.wp_wait_rest_token 𝒱₀ ER (rd m) (c : Thread nD τ) none (κ := K (c, 33))
      (wpE_semWait_eq 𝒱₀ (c : Thread nD τ) none Set.univ) (Set.mem_univ _) () (O := owe l) (W := W) (R := 0) (m := 0) (T := ∅)
      (by rw [Nat.zero_add, expect_bar])) $$ [Hc HO Hat]
  · isplitr; · iapply (inv_bar m K c); iexact HR
    isplitl [Hc]; · iexact Hc
    isplitl [HO]; · iexact HO
    isplitr; · iapply hl; iapply (recs_lev m K); iexact HR
    iexact Hat
  iintro ⟨HO, Hat, -, Hpay⟩
  ihave Hp := (Entails.of_eq (rest_bar m c)) $$ Hpay
  ihave #HI := (inv_bar m K c) $$ HR
  imod (Rounds.cell_close ER (rd m) (Set.mem_univ (K (c, 33))) (fun h => h) (R := 0 + 1) (duties_later m (barC c))) $$ [Hat] with Hz
  · isplitr; · iexact HI
    iexact Hat
  iapply Hk
  isplitl [HO]; · iexists _; iexact HO
  isplitl [Hz] <;> iassumption

/-- The wait for a semaphore of the exchanges: its landing's payload. -/
theorem wait_step {c p : Dev nD} (a : Fin 4) (hp : p ≠ c) {l : List (GSem nD τ sig × ℕ)}
    (hl : (levAts L lv : sProp 𝕄) ⊢ MayWait (c : Thread nD τ) (.dma (xsem a p)) () (owe l)) {q : DmaSem sig} (hq : q = xsem a p)
    {sp sp' : Space} {s : Shape} {e : EltTy} {src : Memref sig .tc sp s e} {dst : Memref sig .tc sp' s e} {h₁ : src.view.WordExact} {h₂ : dst.view.WordExact}
    (hN : dst.view.dmaCredit = N) {α : Type} {Q : α → sProp 𝕄} {k : PUnit → Prog (TpuEff nD τ sig (Elt F) Λ₀ .tc) α} :
    iprop(recs m K ∗ debt c l ∗ cred (tallyAt (xC c a p) () N) ∗ atPos ER (xC c a p) 0 ∅ 0)
      ⊢ iprop(((debt c l ∗ semVal (xC c a p) 0 ∗ xPay m c a p) -∗ WP c (k ⟨⟩) Q)
        -∗ WP c (.op (.waitDma2 q src dst h₁ h₂) k) Q) := by
  subst hq
  unfold debt
  iintro ⟨#HR, ⟨%W, HO⟩, Hc, Hat⟩ Hk
  iapply (Rounds.wp_wait_rest_token 𝒱₀ ER (rd m) (c : Thread nD τ) none (κ := K (c, xj a p))
      (wpE_waitDma2_eq 𝒱₀ (c : Thread nD τ) none Set.univ) (Set.mem_univ _) () (O := owe l) (W := W) (R := 0) (m := 0) (T := ∅)
      (by rw [Nat.zero_add, expect_x m c a hp, hN])) $$ [Hc HO Hat]
  · isplitr; · iapply (inv_x m K c a p); iexact HR
    isplitl [Hc]; · rw [hN]; iexact Hc
    isplitl [HO]; · iexact HO
    isplitr; · iapply hl; iapply (recs_lev m K); iexact HR
    iexact Hat
  iintro ⟨HO, Hat, -, Hpay⟩
  ihave Hp := (Entails.of_eq (rest_x m c a hp)) $$ Hpay
  ihave #HI := (inv_x m K c a p) $$ HR
  imod (Rounds.cell_close ER (rd m) (Set.mem_univ (K (c, xj a p))) (fun h => h) (R := 0 + 1) (duties_later m (xC c a p))) $$ [Hat] with Hz
  · isplitr; · iexact HI
    iexact Hat
  iapply Hk
  isplitl [HO]; · iexists _; iexact HO
  isplitl [Hz] <;> iassumption

/-- The wait for the table. -/
theorem tabwait_step {c : Dev nD} {l : List (GSem nD τ sig × ℕ)}
    (hl : (levAts L lv : sProp 𝕄) ⊢ MayWait (c : Thread nD τ) (.dma tabS) () (owe l)) {q : DmaSem sig} (hq : q = tabS)
    {h₁ : (hM : Memref sig .tc .hbm S2048x256 .f32).view.WordExact} {h₂ : (tM : Memref sig .tc .vmem S2048x256 .f32).view.WordExact}
    {α : Type} {Q : α → sProp 𝕄} {k : PUnit → Prog (TpuEff nD τ sig (Elt F) Λ₀ .tc) α} :
    iprop(recs m K ∗ debt c l ∗ cred (tallyAt (tabC c) () NT) ∗ atPos ER (tabC c) 0 ∅ 0)
      ⊢ iprop(((debt c l ∗ semVal (tabC c) 0 ∗ tabPay m c) -∗ WP c (k ⟨⟩) Q)
        -∗ WP c (.op (.waitDma2 q hM tM h₁ h₂) k) Q) := by
  subst hq
  unfold debt
  iintro ⟨#HR, ⟨%W, HO⟩, Hc, Hat⟩ Hk
  iapply (Rounds.wp_wait_rest_token 𝒱₀ ER (rd m) (c : Thread nD τ) none (κ := K (c, 32))
      (wpE_waitDma2_eq 𝒱₀ (c : Thread nD τ) none Set.univ) (Set.mem_univ _) () (O := owe l) (W := W) (R := 0) (m := 0) (T := ∅)
      (by rw [Nat.zero_add, expect_tab m c])) $$ [Hc HO Hat]
  · isplitr; · iapply (inv_tab m K c); iexact HR
    isplitl [Hc]; · iexact Hc
    isplitl [HO]; · iexact HO
    isplitr; · iapply hl; iapply (recs_lev m K); iexact HR
    iexact Hat
  iintro ⟨HO, Hat, -, Hpay⟩
  ihave Hp := (Entails.of_eq (rest_tab m c)) $$ Hpay
  ihave #HI := (inv_tab m K c) $$ HR
  imod (Rounds.cell_close ER (rd m) (Set.mem_univ (K (c, 32))) (fun h => h) (R := 0 + 1) (duties_later m (tabC c))) $$ [Hat] with Hz
  · isplitr; · iexact HI
    iexact Hat
  iapply Hk
  isplitl [HO]; · iexists _; iexact HO
  isplitl [Hz] <;> iassumption

/-! ## Copies -/

/-- The local copy of the table starts. -/
theorem tab_step {c : Dev nD} {q : DmaSem sig} (hq : q = tabS)
    {h₁ : (hM : Memref sig .tc .hbm S2048x256 .f32).view.WordExact} {h₂ : (tM : Memref sig .tc .vmem S2048x256 .f32).view.WordExact}
    {h₃}
    {α : Type} {Q : α → sProp 𝕄} {k : PUnit → Prog (TpuEff nD τ sig (Elt F) Λ₀ .tc) α} :
    iprop(recs m K ∗ argPts m c ∗ (∃ f, ((c : Thread nD τ).loc cc0_scratch0) ↦{fullShare} f) ∗ dutyTok ER (tabC c) 0 c)
      ⊢ iprop((cred (tallyAt (tabC c) () NT) -∗ WP c (k ⟨⟩) Q)
        -∗ WP c (.op (.enqueueDma hM (.here tM) (.dma q) h₁ h₂ h₃) k) Q) := by
  subst hq
  unfold argPts
  iintro ⟨#HR, Hs, ⟨%f, Hd⟩, Htok⟩ Hk
  iapply (Rounds.wp_copy_pointsTo 𝒱₀ ER (rd m) (c : Thread nD τ) none (κ := K (c, 32)) (r := 0) (d := c) (q := fullShare)
    (fs := m ((c : Thread nD τ).loc main_arg0)) (fd := f) (src := hM) (dst := tM)
    (by rw [duties_tab]; exact Finset.mem_singleton_self _) () NT rfl (amount_tab m c c)
    (by
      rw [payload_tab]; unfold tabPay
      rw [show (tM : Memref sig .tc .vmem S2048x256 .f32).view.write (Elt F) f ((hM : Memref sig .tc .hbm S2048x256 .f32).view.read (Elt F) (m ((c : Thread nD τ).loc main_arg0))) Finset.univ = tabV m c from by
        show (View.whole cc0_scratch0).write (Elt F) f ((View.whole main_arg0).read (Elt F) (m ((c : Thread nD τ).loc main_arg0))) Finset.univ = _
        rw [View.read_whole]; exact View.write_whole_univ _ _ _])) $$ [Hs Hd Htok]
  · isplitr; · iapply (inv_tab m K c); iexact HR
    isplitl [Hs]
    · rw [show (hM : Memref sig .tc .hbm S2048x256 .f32).view.set = Finset.univ from View.set_whole _]; iexact Hs
    isplitl [Hd]
    · rw [show (tM : Memref sig .tc .vmem S2048x256 .f32).view.set = Finset.univ from View.set_whole _]; iexact Hd
    isplitl [Htok]; · iexact Htok
    iapply (reached_tab m K c); iexact HR
  iexact Hk

/-- Rows of the partial result go to peer `p`. -/
theorem rs_step {c p n : Dev nD} (hn : n = p) (hp : p ≠ c) {l₀ l : List (GSem nD τ sig × ℕ)} (hl : l₀ = (xC p 1 c, N) :: l)
    {off : Fin 2 → ℕ} (hoff : off = ![64 * p.val, 0]) {inb : ∀ a, off a + S64x256.size a ≤ S512x256.size a} {hs}
    {off' : Fin 3 → ℕ} (hoff' : off' = ![c.val, 0, 0]) {inb' : ∀ a, off' a + S1x64x256.size a ≤ S8x64x256.size a} {hs'} {hq'}
    {q q' : DmaSem sig} (hq : q = xsem 0 p) (hr : q' = xsem 1 c) {hsc}
    {h₁ : (pM.slice (Rect.unit (s := S512x256) off S64x256.size inb) hs : Memref sig .tc .vmem S64x256 .bf16).view.WordExact}
    {h₂ : ((rM.slice (Rect.unit (s := S8x64x256) off' S1x64x256.size inb') hs').squeeze S64x256 hq' : Memref sig .tc .vmem S64x256 .bf16).view.WordExact}
    {h₃} {α : Type} {Q : α → sProp 𝕄} {k : PUnit → Prog (TpuEff nD τ sig (Elt F) Λ₀ .tc) α} :
    iprop(recs m K ∗ debt c l₀ ∗ segPts m c p ∗ rAny p c ∗ dutyTok ER (xC p 1 c) 0 c ∗ dutyTok ER (xC c 0 p) 0 p)
      ⊢ iprop(((debt c l ∗ cred (tallyAt (xC c 0 p) () N)) -∗ WP c (k ⟨⟩) Q)
        -∗ WP c (.op (.enqueueDma (pM.slice (Rect.unit (s := S512x256) off S64x256.size inb) hs)
            (.remote (Dev.tc n : Thread nD τ) ((rM.slice (Rect.unit (s := S8x64x256) off' S1x64x256.size inb') hs').squeeze S64x256 hq') (.dma q) hsc) (.dma q') h₁ h₂ h₃) k) Q) := by
  subst hn hoff hoff' hq hr hl
  unfold debt rAny
  iintro ⟨#HR, ⟨%W, HO⟩, Hs, ⟨%fd, Hd⟩, Ht, Ht'⟩ Hk
  iapply (Rounds.wp_send_pointsTo 𝒱₀ ER (rd m) (c : Thread nD τ) none (c' := (n : Thread nD τ)) (κ₁ := K (c, xj 0 n)) (κ₂ := K (n, xj 1 c))
    (r₁ := 0) (r₂ := 0) (d₁ := n) (d₂ := c) (q := fullShare) (fs := partV m c) (fd := fd) (src := segM n) (dst := rRow c)
    (by rw [duties_x m c 0 hp]; exact Finset.mem_singleton_self _) (by rw [duties_x m n 1 hp.symm]; exact Finset.mem_singleton_self _)
    () () N rfl (amount_x m c 0 n n) (amount_x m n 1 c c) (owe l) (owe_cons (xC n 1 c, N) l) (W := W)
    (by rw [payload_x]; show _ ⊢ segPts m c n; unfold segPts; exact BI.Entails.refl _)
    (by
      rw [payload_x]; show _ ⊢ rPts m n c; unfold rPts owns
      iintro H; iexists _; isplitr
      swap; · iexact H
      ipureintro; exact View.read_write_univ (v := (rRow c).view) fd ((segM n).view.read (Elt F) (partV m c)))) $$ [HO Hs Hd Ht Ht']
  · isplitr; · iapply (inv_x m K c 0 n); iexact HR
    isplitr; · iapply (inv_x m K n 1 c); iexact HR
    isplitl [Hs]; · unfold segPts; iexact Hs
    isplitl [Hd]; · iexact Hd
    isplitl [HO]; · iexact HO
    isplitl [Ht']; · iexact Ht'
    isplitr; · iapply (reached_x m K c 0 n); iexact HR
    isplitl [Ht]; · iexact Ht
    iapply (reached_x m K n 1 c); iexact HR
  iintro ⟨Hc, HO⟩
  iapply Hk
  isplitl [HO]; · iexists W; iexact HO
  iexact Hc

/-- The sum goes to peer `p`. -/
theorem ag_step {c p n : Dev nD} (hn : n = p) (hp : p ≠ c) {l₀ l : List (GSem nD τ sig × ℕ)} (hl : l₀ = (xC p 3 c, N) :: l)
    {off' : Fin 3 → ℕ} (hoff' : off' = ![c.val, 0, 0]) {inb' : ∀ a, off' a + S1x64x256.size a ≤ S8x64x256.size a} {hs'} {hq'}
    {q q' : DmaSem sig} (hq : q = xsem 2 p) (hr : q' = xsem 3 c) {hsc}
    {h₁ : (gM : Memref sig .tc .vmem S64x256 .bf16).view.WordExact}
    {h₂ : ((aM.slice (Rect.unit (s := S8x64x256) off' S1x64x256.size inb') hs').squeeze S64x256 hq' : Memref sig .tc .vmem S64x256 .bf16).view.WordExact}
    {h₃} {α : Type} {Q : α → sProp 𝕄} {k : PUnit → Prog (TpuEff nD τ sig (Elt F) Λ₀ .tc) α} :
    iprop(recs m K ∗ debt c l₀ ∗ gPts m c p ∗ aAny p c ∗ dutyTok ER (xC p 3 c) 0 c ∗ dutyTok ER (xC c 2 p) 0 p)
      ⊢ iprop(((debt c l ∗ cred (tallyAt (xC c 2 p) () N)) -∗ WP c (k ⟨⟩) Q)
        -∗ WP c (.op (.enqueueDma gM
            (.remote (Dev.tc n : Thread nD τ) ((aM.slice (Rect.unit (s := S8x64x256) off' S1x64x256.size inb') hs').squeeze S64x256 hq') (.dma q) hsc) (.dma q') h₁ h₂ h₃) k) Q) := by
  subst hn hoff' hq hr hl
  unfold debt aAny
  iintro ⟨#HR, ⟨%W, HO⟩, Hs, ⟨%fd, Hd⟩, Ht, Ht'⟩ Hk
  iapply (Rounds.wp_send_pointsTo 𝒱₀ ER (rd m) (c : Thread nD τ) none (c' := (n : Thread nD τ)) (κ₁ := K (c, xj 2 n)) (κ₂ := K (n, xj 3 c))
    (r₁ := 0) (r₂ := 0) (d₁ := n) (d₂ := c) (q := Transfers.dealOf fullShare (Finset.univ.erase c) n) (fs := (sumV m c : (cc0_scratch2 : Ref sig .tc).ty.Contents (Elt F))) (fd := fd) (src := gM) (dst := aRow c)
    (by rw [duties_x m c 2 hp]; exact Finset.mem_singleton_self _) (by rw [duties_x m n 3 hp.symm]; exact Finset.mem_singleton_self _)
    () () N rfl (amount_x m c 2 n n) (amount_x m n 3 c c) (owe l) (owe_cons (xC n 3 c, N) l) (W := W)
    (by rw [payload_x]; show _ ⊢ gPts m c n; unfold gPts; exact BI.Entails.refl _)
    (by
      rw [payload_x]; show _ ⊢ aPts m n c; unfold aPts owns
      iintro H; iexists _; isplitr
      swap; · iexact H
      ipureintro; exact View.read_write_univ (v := (aRow c).view) fd (sumV m c))) $$ [HO Hs Hd Ht Ht']
  · isplitr; · iapply (inv_x m K c 2 n); iexact HR
    isplitr; · iapply (inv_x m K n 3 c); iexact HR
    isplitl [Hs]; · unfold gPts; iexact Hs
    isplitl [Hd]; · iexact Hd
    isplitl [HO]; · iexact HO
    isplitl [Ht']; · iexact Ht'
    isplitr; · iapply (reached_x m K c 2 n); iexact HR
    isplitl [Ht]; · iexact Ht
    iapply (reached_x m K n 3 c); iexact HR
  iintro ⟨Hc, HO⟩
  iapply Hk
  isplitl [HO]; · iexists W; iexact HO
  iexact Hc

end Cert.Gather

end
-- ==== Proof.Gather.Local.lean ====
/- The kernel's loads and stores, each at a symbolic device: the block that is read or written, and its contents. -/
module

public import proofs.«01_k».proof.Proof.Gather.Steps

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The indices, staged. -/
def xPts (c : Dev nD) : sProp 𝕄 := ((c : Thread nD τ).loc cc0_stg0_0) ↦{fullShare} idxV m c
/-- The table, copied in. -/
def tPts (c : Dev nD) : sProp 𝕄 := tM.view.loc (c : Thread nD τ) ↦[(tM : Memref sig .tc .vmem S2048x256 .f32).view.set]{fullShare} tabV m c
/-- Pair `q`'s rows of the partial result, with any contents. -/
def chunkAny (c : Dev nD) (q : Fin 4) : sProp 𝕄 := iprop(∃ f, pM.view.loc (c : Thread nD τ) ↦[chunkSet q]{fullShare} f)
/-- The sum, stored. -/
def gWhole (c : Dev nD) : sProp 𝕄 := ((c : Thread nD τ).loc cc0_scratch2) ↦{fullShare} (sumV m c : (cc0_scratch2 : Ref sig .tc).ty.Contents (Elt F))
/-- The result with the rows of the first `s` devices finished. -/
def outTo (c : Dev nD) (s : ℕ) : sProp 𝕄 :=
  iprop(∃ f : (cc0_stg1_0 : Ref sig .tc).ty.Contents (Elt F), ⌜∀ i : S512x256.Idx, (i 0).val / 64 < s → f i = outV m i⌝ ∗ (((c : Thread nD τ).loc cc0_stg1_0) ↦{fullShare} f))

theorem hz2 : (![0, 0] : Fin 2 → ℕ) = fun _ => 0 := funext fun a => by fin_cases a <;> rfl

theorem ids_step {c : Dev nD} (q : Fin 4) {off : Fin 1 → ℕ} (hoff : off = ![128 * q.val]) {inb : ∀ a, off a + S128.size a ≤ S512.size a} {hl}
    {α : Type} {Q : α → sProp 𝕄} {k : Vec F S128 .i32 → Prog (TpuEff nD τ sig (Elt F) Λ₀ .tc) α} :
    xPts m c ⊢ iprop((xPts m c -∗ WP c (k (idsV m c q)) Q)
      -∗ WP c (.op (.load xM (Rect.unit (s := S512) off S128.size inb).toLoadRect hl) k) Q) := by
  subst hoff
  unfold xPts
  exact wp_load 𝒱₀ (c : Thread nD τ) none Set.univ (m := xM) (Finset.subset_univ _)

theorem tab_load {c : Dev nD} {inb : ∀ a, (![0, 0] : Fin 2 → ℕ) a + S2048x256.size a ≤ S2048x256.size a} {hl}
    {α : Type} {Q : α → sProp 𝕄} {k : Vec F S2048x256 .f32 → Prog (TpuEff nD τ sig (Elt F) Λ₀ .tc) α} :
    tPts m c ⊢ iprop((tPts m c -∗ WP c (k (tabV m c)) Q)
      -∗ WP c (.op (.load tM (Rect.unit (s := S2048x256) ![0, 0] S2048x256.size inb).toLoadRect hl) k) Q) := by
  unfold tPts
  have h := wp_load (defs := defs₀ (F := F)) (Γ := PendingWaitsCtx.empty) (Ix := Unit) (Name := ℕ) (U := UU) (Lvl := ℕ) 𝒱₀ (c : Thread nD τ) none Set.univ (m := tM) (Q := Q) (k := k) (hl := hl) (q := fullShare) (f := tabV m c)
    (S := (tM : Memref sig .tc .vmem S2048x256 .f32).view.set) (r := (Rect.unit (s := S2048x256) ![0, 0] S2048x256.size inb).toLoadRect)
    (by rw [show (tM : Memref sig .tc .vmem S2048x256 .f32).view.set = Finset.univ from View.set_whole _]; exact Finset.subset_univ _)
  rw [show tM.view.readAt (Elt F) (Rect.unit (s := S2048x256) ![0, 0] S2048x256.size inb).toLoadRect (tabV m c) = tabV m c from
    Memref.readAt_unit_zero (Elt F) cc0_scratch0 hz2 _ _] at h
  exact h

/-- Pair `q`'s rows of the partial result are stored: the rows of its two devices. -/
theorem chunk_step {c : Dev nD} (q : Fin 4) (a b : Dev nD) (ha : a.val / 2 = q.val) (hb : b.val / 2 = q.val) (hab : a ≠ b)
    {off : Fin 2 → ℕ} (hoff : off = ![128 * q.val, 0]) {inb : ∀ a, off a + S128x256.size a ≤ S512x256.size a} {hl hx hm}
    {w : Vec F S128x256 .bf16} (hw : w = partB m c q)
    {α : Type} {Q : α → sProp 𝕄} {k : PUnit → Prog (TpuEff nD τ sig (Elt F) Λ₀ .tc) α} :
    chunkAny c q ⊢ iprop(((segPts m c a ∗ segPts m c b) -∗ WP c (k ⟨⟩) Q)
      -∗ WP c (.op (.load pM (Rect.unit (s := S512x256) off S128x256.size inb).toLoadRect hl) fun _ =>
          .op (.store pM (Rect.unit (s := S512x256) off S128x256.size inb) w Finset.univ hx hm) k) Q) := by
  subst hoff hw
  unfold chunkAny
  iintro ⟨%f, H⟩ Hk
  iapply (wp_load_rect 𝒱₀ (c : Thread nD τ) none Set.univ (m := pM) (r := chunkRect q) (S := chunkSet q) subset_rfl) $$ [H]
  · iexact H
  iintro H
  iapply (wp_store 𝒱₀ (c : Thread nD τ) none Set.univ (m := pM) (r := chunkRect q) (S := chunkSet q) subset_rfl) $$ [H]
  · iexact H
  iintro H
  iapply Hk
  have e : ((pM.view.loc (c : Thread nD τ) ↦[chunkSet q]{fullShare} ((pM.access (chunkRect q)).write (Elt F) f (partB m c q) Finset.univ)) : sProp 𝕄)
      ⊢ iprop(segPts m c a ∗ segPts m c b) := by
    rw [pointsTo_congr (ℓ := pM.view.loc (c : Thread nD τ)) (g := partV m c) (fun i hi => write_chunk m c q f i hi), chunk_eq q a b ha hb hab]
    exact (pointsTo_union (seg_disjoint hab)).1
  iapply e; iexact H

theorem seg_load {c p : Dev nD} {off : Fin 2 → ℕ} (hoff : off = ![64 * p.val, 0]) {inb : ∀ a, off a + S64x256.size a ≤ S512x256.size a} {hl}
    {α : Type} {Q : α → sProp 𝕄} {k : Vec F S64x256 .bf16 → Prog (TpuEff nD τ sig (Elt F) Λ₀ .tc) α} :
    segPts m c p ⊢ iprop((segPts m c p -∗ WP c (k (shareV m c p)) Q)
      -∗ WP c (.op (.load pM (Rect.unit (s := S512x256) off S64x256.size inb).toLoadRect hl) k) Q) := by
  subst hoff
  unfold segPts
  exact wp_load_rect 𝒱₀ (c : Thread nD τ) none Set.univ (m := pM) (r := segRect p) (S := segSet p) subset_rfl

/-! ## The landing buffers -/

theorem rRow_set (s : Dev nD) : (rM.access (rowRect s)).set = rSet s := (View.set_reshape _ _).symm
theorem aRow_set (s : Dev nD) : (aM.access (rowRect s)).set = aSet s := (View.set_reshape _ _).symm

/-- Device `c` puts its own block in its row. -/
theorem r_put {c s : Dev nD} {off : Fin 3 → ℕ} (hoff : off = ![s.val, 0, 0]) {inb : ∀ a, off a + S1x64x256.size a ≤ S8x64x256.size a} {hl hx hm}
    {w : Vec F S1x64x256 .bf16} (hw : w = row1 (shareV m s c))
    {α : Type} {Q : α → sProp 𝕄} {k : PUnit → Prog (TpuEff nD τ sig (Elt F) Λ₀ .tc) α} :
    rAny c s ⊢ iprop((rPts m c s -∗ WP c (k ⟨⟩) Q)
      -∗ WP c (.op (.load rM (Rect.unit (s := S8x64x256) off S1x64x256.size inb).toLoadRect hl) fun _ =>
          .op (.store rM (Rect.unit (s := S8x64x256) off S1x64x256.size inb) w Finset.univ hx hm) k) Q) := by
  subst hoff hw
  unfold rAny rPts owns
  iintro ⟨%f, H⟩ Hk
  iapply (wp_load_rect 𝒱₀ (c : Thread nD τ) none Set.univ (m := rM) (r := rowRect s) (S := rSet s) (Finset.subset_of_eq (rRow_set s))) $$ [H]
  · iexact H
  iintro H
  iapply (wp_store 𝒱₀ (c : Thread nD τ) none Set.univ (m := rM) (r := rowRect s) (S := rSet s) (Finset.subset_of_eq (rRow_set s))) $$ [H]
  · iexact H
  iintro H
  iapply Hk
  iexists _
  isplitr
  swap; · iexact H
  ipureintro; exact write_rRow s f (shareV m s c)

theorem r_load {c s : Dev nD} {off : Fin 3 → ℕ} (hoff : off = ![s.val, 0, 0]) {inb : ∀ a, off a + S1x64x256.size a ≤ S8x64x256.size a} {hl}
    {α : Type} {Q : α → sProp 𝕄} {k : Vec F S1x64x256 .bf16 → Prog (TpuEff nD τ sig (Elt F) Λ₀ .tc) α} :
    rPts m c s ⊢ iprop((rPts m c s -∗ WP c (k (row1 (shareV m s c))) Q)
      -∗ WP c (.op (.load rM (Rect.unit (s := S8x64x256) off S1x64x256.size inb).toLoadRect hl) k) Q) := by
  subst hoff
  unfold rPts owns
  iintro ⟨%f, %hf, H⟩ Hk
  iapply (wp_load_rect 𝒱₀ (c : Thread nD τ) none Set.univ (m := rM) (r := rowRect s) (S := rSet s) (Finset.subset_of_eq (rRow_set s))) $$ [H]
  · iexact H
  iintro H
  rw [show (rM.access (rowRect s)).read (Elt F) f = row1 (shareV m s c) from read_rRow s f hf]
  iapply Hk
  iexists f
  isplitr; · ipureintro; exact hf
  iexact H

/-- Device `c` puts its own sum in its row. -/
theorem a_put {c s : Dev nD} {off : Fin 3 → ℕ} (hoff : off = ![s.val, 0, 0]) {inb : ∀ a, off a + S1x64x256.size a ≤ S8x64x256.size a} {hl hx hm}
    {w : Vec F S1x64x256 .bf16} (hw : w = row1 (sumV m s))
    {α : Type} {Q : α → sProp 𝕄} {k : PUnit → Prog (TpuEff nD τ sig (Elt F) Λ₀ .tc) α} :
    aAny c s ⊢ iprop((aPts m c s -∗ WP c (k ⟨⟩) Q)
      -∗ WP c (.op (.load aM (Rect.unit (s := S8x64x256) off S1x64x256.size inb).toLoadRect hl) fun _ =>
          .op (.store aM (Rect.unit (s := S8x64x256) off S1x64x256.size inb) w Finset.univ hx hm) k) Q) := by
  subst hoff hw
  unfold aAny aPts owns
  iintro ⟨%f, H⟩ Hk
  iapply (wp_load_rect 𝒱₀ (c : Thread nD τ) none Set.univ (m := aM) (r := rowRect s) (S := aSet s) (Finset.subset_of_eq (aRow_set s))) $$ [H]
  · iexact H
  iintro H
  iapply (wp_store 𝒱₀ (c : Thread nD τ) none Set.univ (m := aM) (r := rowRect s) (S := aSet s) (Finset.subset_of_eq (aRow_set s))) $$ [H]
  · iexact H
  iintro H
  iapply Hk
  iexists _
  isplitr
  swap; · iexact H
  ipureintro; exact write_aRow s f (sumV m s)

theorem a_load {c s : Dev nD} {off : Fin 3 → ℕ} (hoff : off = ![s.val, 0, 0]) {inb : ∀ a, off a + S1x64x256.size a ≤ S8x64x256.size a} {hl}
    {α : Type} {Q : α → sProp 𝕄} {k : Vec F S1x64x256 .bf16 → Prog (TpuEff nD τ sig (Elt F) Λ₀ .tc) α} :
    aPts m c s ⊢ iprop((aPts m c s -∗ WP c (k (row1 (sumV m s))) Q)
      -∗ WP c (.op (.load aM (Rect.unit (s := S8x64x256) off S1x64x256.size inb).toLoadRect hl) k) Q) := by
  subst hoff
  unfold aPts owns
  iintro ⟨%f, %hf, H⟩ Hk
  iapply (wp_load_rect 𝒱₀ (c : Thread nD τ) none Set.univ (m := aM) (r := rowRect s) (S := aSet s) (Finset.subset_of_eq (aRow_set s))) $$ [H]
  · iexact H
  iintro H
  rw [show (aM.access (rowRect s)).read (Elt F) f = row1 (sumV m s) from read_aRow s f hf]
  iapply Hk
  iexists f
  isplitr; · ipureintro; exact hf
  iexact H

/-! ## The sum and the result -/

/-- The sum is stored whole. -/
theorem g_put {c : Dev nD} {inb : ∀ a, (![0, 0] : Fin 2 → ℕ) a + S64x256.size a ≤ S64x256.size a} {hl hx hm}
    {w : Vec F S64x256 .bf16} (hw : w = sumV m c)
    {α : Type} {Q : α → sProp 𝕄} {k : PUnit → Prog (TpuEff nD τ sig (Elt F) Λ₀ .tc) α} :
    iprop(∃ f, ((c : Thread nD τ).loc cc0_scratch2) ↦{fullShare} f) ⊢ iprop((gWhole m c -∗ WP c (k ⟨⟩) Q)
      -∗ WP c (.op (.load gM (Rect.unit (s := S64x256) ![0, 0] S64x256.size inb).toLoadRect hl) fun _ =>
          .op (.store gM (Rect.unit (s := S64x256) ![0, 0] S64x256.size inb) w Finset.univ hx hm) k) Q) := by
  subst hw
  unfold gWhole
  iintro ⟨%f, H⟩ Hk
  iapply (wp_load_rect 𝒱₀ (c : Thread nD τ) none Set.univ (m := gM) (S := Finset.univ) (Finset.subset_univ _)) $$ [H]
  · iexact H
  iintro H
  iapply (wp_store 𝒱₀ (c : Thread nD τ) none Set.univ (m := gM) (S := Finset.univ) (Finset.subset_univ _)) $$ [H]
  · iexact H
  iintro H
  rw [show (gM.access (Rect.unit (s := S64x256) ![0, 0] S64x256.size inb)).write (Elt F) f (sumV m c) Finset.univ = sumV m c from
    Memref.write_access_unit_zero_univ (Elt F) cc0_scratch2 hz2 _ f _]
  iapply Hk; iexact H

/-- A load of the result buffer, whose value is not used. -/
theorem out_load {c : Dev nD} {s : ℕ} {off : Fin 2 → ℕ} {inb : ∀ a, off a + S64x256.size a ≤ S512x256.size a} {hl}
    {α : Type} {Q : α → sProp 𝕄} {k : Vec F S64x256 .bf16 → Prog (TpuEff nD τ sig (Elt F) Λ₀ .tc) α} :
    outTo m c s ⊢ iprop((∀ v, outTo m c s -∗ WP c (k v) Q)
      -∗ WP c (.op (.load oM (Rect.unit (s := S512x256) off S64x256.size inb).toLoadRect hl) k) Q) := by
  unfold outTo
  iintro ⟨%f, %hf, H⟩ Hk
  iapply (wp_load_rect 𝒱₀ (c : Thread nD τ) none Set.univ (m := oM) (S := Finset.univ) (Finset.subset_univ _)) $$ [H]
  · iexact H
  iintro H
  iapply Hk
  iexists f
  isplitr; · ipureintro; exact hf
  iexact H

/-- Device `s`'s sum is stored at its rows of the result. -/
theorem out_store {c : Dev nD} (s : Dev nD) {off : Fin 2 → ℕ} (hoff : off = ![64 * s.val, 0]) {inb : ∀ a, off a + S64x256.size a ≤ S512x256.size a} {hx hm}
    {w : Vec F S64x256 .bf16} (hw : w = sumV m s)
    {α : Type} {Q : α → sProp 𝕄} {k : PUnit → Prog (TpuEff nD τ sig (Elt F) Λ₀ .tc) α} :
    outTo m c s.val ⊢ iprop((outTo m c (s.val + 1) -∗ WP c (k ⟨⟩) Q)
      -∗ WP c (.op (.store oM (Rect.unit (s := S512x256) off S64x256.size inb) w Finset.univ hx hm) k) Q) := by
  subst hoff hw
  unfold outTo
  iintro ⟨%f, %hf, H⟩ Hk
  iapply (wp_store 𝒱₀ (c : Thread nD τ) none Set.univ (m := oM) (r := segRect s) (S := Finset.univ) (Finset.subset_univ _)) $$ [H]
  · iexact H
  iintro H
  iapply Hk
  iexists _
  isplitr
  swap; · iexact H
  ipureintro; exact write_out m s f hf

end Cert.Gather

end
-- ==== Proof.Gather.Bundles.lean ====
/- The bundles of knowledge that the kernel's steps take and give, the steps over them, and the kernel's parts at its own
   buffers. -/
module

public import proofs.«01_k».proof.Proof.Gather.Offsets
public import proofs.«01_k».proof.Proof.Gather.Local

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 34 → ℕ)

/-! ## The payments still to make -/

def barFrom (c : Dev nD) (i : ℕ) : List (GSem nD τ sig × ℕ) := (barL c).drop i ++ (rsL c ++ agL c)
def rsFrom (c : Dev nD) (i : ℕ) : List (GSem nD τ sig × ℕ) := (rsL c).drop i ++ agL c
def agFrom (c : Dev nD) (i : ℕ) : List (GSem nD τ sig × ℕ) := (agL c).drop i

/-! ## What a landing in a block credits -/

theorem credit_r (off : Fin 3 → ℕ) (inb : ∀ a, off a + S1x64x256.size a ≤ S8x64x256.size a) (hs) :
    ((rM.slice (Rect.unit (s := S8x64x256) off S1x64x256.size inb) hs).squeeze S64x256 squeezes_S1x64x256_S64x256 : Memref sig .tc .vmem S64x256 .bf16).view.dmaCredit = N := rfl
theorem credit_a (off : Fin 3 → ℕ) (inb : ∀ a, off a + S1x64x256.size a ≤ S8x64x256.size a) (hs) :
    ((aM.slice (Rect.unit (s := S8x64x256) off S1x64x256.size inb) hs).squeeze S64x256 squeezes_S1x64x256_S64x256 : Memref sig .tc .vmem S64x256 .bf16).view.dmaCredit = N := rfl
theorem credit_p (off : Fin 2 → ℕ) (inb : ∀ a, off a + S64x256.size a ≤ S512x256.size a) (hs) :
    (pM.slice (Rect.unit (s := S512x256) off S64x256.size inb) hs : Memref sig .tc .vmem S64x256 .bf16).view.dmaCredit = N := rfl
theorem credit_g : (gM : Memref sig .tc .vmem S64x256 .bf16).view.dmaCredit = N := rfl

/-! ## Bundles -/

/-- What a signal to `p` takes. -/
def sigR (c p : Dev nD) : sProp 𝕄 := iprop(dutyTok ER (barC p) 0 c ∗ rAny c p ∗ aAny c p)
/-- The payments of a copy of a block to `p`. -/
def rsT (c p : Dev nD) : sProp 𝕄 := iprop(dutyTok ER (xC p 1 c) 0 c ∗ dutyTok ER (xC c 0 p) 0 p)
/-- The payments of a copy of the sum to `p`. -/
def agT (c p : Dev nD) : sProp 𝕄 := iprop(dutyTok ER (xC p 3 c) 0 c ∗ dutyTok ER (xC c 2 p) 0 p)
/-- A credit of family `a`. -/
def crd (c : Dev nD) (a : Fin 4) (p : Dev nD) : sProp 𝕄 := cred (tallyAt (xC c a p) () N)
/-- A place of family `a`. -/
def pos (c : Dev nD) (a : Fin 4) (p : Dev nD) : sProp 𝕄 := atPos ER (xC c a p) 0 ∅ 0
/-- A semaphore of family `a`, closed. -/
def fin (c : Dev nD) (a : Fin 4) (p : Dev nD) : sProp 𝕄 := semVal (xC c a p) 0

theorem sig_go {c p n : Dev nD} (hn : n = p) (hp : p ≠ c) {l₀ l : List (GSem nD τ sig × ℕ)} (hl : l₀ = (barC p, 1) :: l) {k' : ℕ} (hk : 1 = k')
    {α : Type} {Q : α → sProp 𝕄} {k : PUnit → Prog (TpuEff nD τ sig (Elt F) Λ₀ .tc) α} :
    iprop(recs m K ∗ debt c l₀ ∗ sigR c p)
      ⊢ iprop((debt c l -∗ WP c (k ⟨⟩) Q) -∗ WP c (.op (.semSignal (n, .tc) barS k') k) Q) := by
  unfold sigR; exact sig_step m K hn hp hl hk

theorem wait_go {c p : Dev nD} (a : Fin 4) (hp : p ≠ c) {l : List (GSem nD τ sig × ℕ)}
    (hl : (levAts L lv : sProp 𝕄) ⊢ MayWait (c : Thread nD τ) (.dma (xsem a p)) () (owe l)) {q : DmaSem sig} (hq : q = xsem a p)
    {sp sp' : Space} {s : Shape} {e : EltTy} {src : Memref sig .tc sp s e} {dst : Memref sig .tc sp' s e} {h₁ : src.view.WordExact} {h₂ : dst.view.WordExact}
    (hN : dst.view.dmaCredit = N) {X : sProp 𝕄} (hX : xPay m c a p = X) {α : Type} {Q : α → sProp 𝕄} {k : PUnit → Prog (TpuEff nD τ sig (Elt F) Λ₀ .tc) α} :
    iprop(recs m K ∗ debt c l ∗ crd c a p ∗ pos c a p)
      ⊢ iprop(((debt c l ∗ fin c a p ∗ X) -∗ WP c (k ⟨⟩) Q)
        -∗ WP c (.op (.waitDma2 q src dst h₁ h₂) k) Q) := by
  subst hX; unfold crd pos fin; exact wait_step m K a hp hl hq hN

theorem rs_go {c p n : Dev nD} (hn : n = p) (hp : p ≠ c) {l₀ l : List (GSem nD τ sig × ℕ)} (hl : l₀ = (xC p 1 c, N) :: l)
    {off : Fin 2 → ℕ} (hoff : off = ![64 * p.val, 0]) {inb : ∀ a, off a + S64x256.size a ≤ S512x256.size a} {hs}
    {off' : Fin 3 → ℕ} (hoff' : off' = ![c.val, 0, 0]) {inb' : ∀ a, off' a + S1x64x256.size a ≤ S8x64x256.size a} {hs'} {hq'}
    {q q' : DmaSem sig} (hq : q = xsem 0 p) (hr : q' = xsem 1 c) {hsc}
    {h₁ : (pM.slice (Rect.unit (s := S512x256) off S64x256.size inb) hs : Memref sig .tc .vmem S64x256 .bf16).view.WordExact}
    {h₂ : ((rM.slice (Rect.unit (s := S8x64x256) off' S1x64x256.size inb') hs').squeeze S64x256 hq' : Memref sig .tc .vmem S64x256 .bf16).view.WordExact}
    {h₃} {α : Type} {Q : α → sProp 𝕄} {k : PUnit → Prog (TpuEff nD τ sig (Elt F) Λ₀ .tc) α} :
    iprop(recs m K ∗ debt c l₀ ∗ segPts m c p ∗ rAny p c ∗ rsT c p)
      ⊢ iprop(((debt c l ∗ crd c 0 p) -∗ WP c (k ⟨⟩) Q)
        -∗ WP c (.op (.enqueueDma (pM.slice (Rect.unit (s := S512x256) off S64x256.size inb) hs)
            (.remote (Dev.tc n : Thread nD τ) ((rM.slice (Rect.unit (s := S8x64x256) off' S1x64x256.size inb') hs').squeeze S64x256 hq') (.dma q) hsc) (.dma q') h₁ h₂ h₃) k) Q) := by
  unfold rsT crd; exact rs_step m K hn hp hl hoff hoff' hq hr

theorem ag_go {c p n : Dev nD} (hn : n = p) (hp : p ≠ c) {l₀ l : List (GSem nD τ sig × ℕ)} (hl : l₀ = (xC p 3 c, N) :: l)
    {off' : Fin 3 → ℕ} (hoff' : off' = ![c.val, 0, 0]) {inb' : ∀ a, off' a + S1x64x256.size a ≤ S8x64x256.size a} {hs'} {hq'}
    {q q' : DmaSem sig} (hq : q = xsem 2 p) (hr : q' = xsem 3 c) {hsc}
    {h₁ : (gM : Memref sig .tc .vmem S64x256 .bf16).view.WordExact}
    {h₂ : ((aM.slice (Rect.unit (s := S8x64x256) off' S1x64x256.size inb') hs').squeeze S64x256 hq' : Memref sig .tc .vmem S64x256 .bf16).view.WordExact}
    {h₃} {α : Type} {Q : α → sProp 𝕄} {k : PUnit → Prog (TpuEff nD τ sig (Elt F) Λ₀ .tc) α} :
    iprop(recs m K ∗ debt c l₀ ∗ gPts m c p ∗ aAny p c ∗ agT c p)
      ⊢ iprop(((debt c l ∗ crd c 2 p) -∗ WP c (k ⟨⟩) Q)
        -∗ WP c (.op (.enqueueDma gM
            (.remote (Dev.tc n : Thread nD τ) ((aM.slice (Rect.unit (s := S8x64x256) off' S1x64x256.size inb') hs').squeeze S64x256 hq') (.dma q) hsc) (.dma q') h₁ h₂ h₃) k) Q) := by
  unfold agT crd; exact ag_step m K hn hp hl hoff' hq hr

/-! ## The parts at the kernel's buffers -/

abbrev P1 := k0_part1 (F := F) hM (Memref.isWhole_whole _) xM (Memref.isWhole_whole _) oM (Memref.isWhole_whole _) tM (Memref.isWhole_whole _) pM (Memref.isWhole_whole _) gM (Memref.isWhole_whole _) rM (Memref.isWhole_whole _) aM (Memref.isWhole_whole _) cc0_scratch5 cc0_scratch6 cc0_scratch7 cc0_scratch8 cc0_scratch9
abbrev P2 := k0_part2 (F := F) hM (Memref.isWhole_whole _) xM (Memref.isWhole_whole _) oM (Memref.isWhole_whole _) tM (Memref.isWhole_whole _) pM (Memref.isWhole_whole _) gM (Memref.isWhole_whole _) rM (Memref.isWhole_whole _) aM (Memref.isWhole_whole _) cc0_scratch5 cc0_scratch6 cc0_scratch7 cc0_scratch8 cc0_scratch9
abbrev P3 := k0_part3 (F := F) hM (Memref.isWhole_whole _) xM (Memref.isWhole_whole _) oM (Memref.isWhole_whole _) tM (Memref.isWhole_whole _) pM (Memref.isWhole_whole _) gM (Memref.isWhole_whole _) rM (Memref.isWhole_whole _) aM (Memref.isWhole_whole _) cc0_scratch5 cc0_scratch6 cc0_scratch7 cc0_scratch8 cc0_scratch9
abbrev P4 := k0_part4 (F := F) hM (Memref.isWhole_whole _) xM (Memref.isWhole_whole _) oM (Memref.isWhole_whole _) tM (Memref.isWhole_whole _) pM (Memref.isWhole_whole _) gM (Memref.isWhole_whole _) rM (Memref.isWhole_whole _) aM (Memref.isWhole_whole _) cc0_scratch5 cc0_scratch6 cc0_scratch7 cc0_scratch8 cc0_scratch9
abbrev P5 := k0_part5 (F := F) hM (Memref.isWhole_whole _) xM (Memref.isWhole_whole _) oM (Memref.isWhole_whole _) tM (Memref.isWhole_whole _) pM (Memref.isWhole_whole _) gM (Memref.isWhole_whole _) rM (Memref.isWhole_whole _) aM (Memref.isWhole_whole _) cc0_scratch5 cc0_scratch6 cc0_scratch7 cc0_scratch8 cc0_scratch9
abbrev P6 := k0_part6 (F := F) hM (Memref.isWhole_whole _) xM (Memref.isWhole_whole _) oM (Memref.isWhole_whole _) tM (Memref.isWhole_whole _) pM (Memref.isWhole_whole _) gM (Memref.isWhole_whole _) rM (Memref.isWhole_whole _) aM (Memref.isWhole_whole _) cc0_scratch5 cc0_scratch6 cc0_scratch7 cc0_scratch8 cc0_scratch9
abbrev P7 := k0_part7 (F := F) hM (Memref.isWhole_whole _) xM (Memref.isWhole_whole _) oM (Memref.isWhole_whole _) tM (Memref.isWhole_whole _) pM (Memref.isWhole_whole _) gM (Memref.isWhole_whole _) rM (Memref.isWhole_whole _) aM (Memref.isWhole_whole _) cc0_scratch5 cc0_scratch6 cc0_scratch7 cc0_scratch8 cc0_scratch9
abbrev P8 := k0_part8 (F := F) hM (Memref.isWhole_whole _) xM (Memref.isWhole_whole _) oM (Memref.isWhole_whole _) tM (Memref.isWhole_whole _) pM (Memref.isWhole_whole _) gM (Memref.isWhole_whole _) rM (Memref.isWhole_whole _) aM (Memref.isWhole_whole _) cc0_scratch5 cc0_scratch6 cc0_scratch7 cc0_scratch8 cc0_scratch9
abbrev P9 := k0_part9 (F := F) hM (Memref.isWhole_whole _) xM (Memref.isWhole_whole _) oM (Memref.isWhole_whole _) tM (Memref.isWhole_whole _) pM (Memref.isWhole_whole _) gM (Memref.isWhole_whole _) rM (Memref.isWhole_whole _) aM (Memref.isWhole_whole _) cc0_scratch5 cc0_scratch6 cc0_scratch7 cc0_scratch8 cc0_scratch9
abbrev P10 := k0_part10 (F := F) hM (Memref.isWhole_whole _) xM (Memref.isWhole_whole _) oM (Memref.isWhole_whole _) tM (Memref.isWhole_whole _) pM (Memref.isWhole_whole _) gM (Memref.isWhole_whole _) rM (Memref.isWhole_whole _) aM (Memref.isWhole_whole _) cc0_scratch5 cc0_scratch6 cc0_scratch7 cc0_scratch8 cc0_scratch9
abbrev P11 := k0_part11 (F := F) hM (Memref.isWhole_whole _) xM (Memref.isWhole_whole _) oM (Memref.isWhole_whole _) tM (Memref.isWhole_whole _) pM (Memref.isWhole_whole _) gM (Memref.isWhole_whole _) rM (Memref.isWhole_whole _) aM (Memref.isWhole_whole _) cc0_scratch5 cc0_scratch6 cc0_scratch7 cc0_scratch8 cc0_scratch9
abbrev P12 := k0_part12 (F := F) hM (Memref.isWhole_whole _) xM (Memref.isWhole_whole _) oM (Memref.isWhole_whole _) tM (Memref.isWhole_whole _) pM (Memref.isWhole_whole _) gM (Memref.isWhole_whole _) rM (Memref.isWhole_whole _) aM (Memref.isWhole_whole _) cc0_scratch5 cc0_scratch6 cc0_scratch7 cc0_scratch8 cc0_scratch9
abbrev P13 := k0_part13 (F := F) hM (Memref.isWhole_whole _) xM (Memref.isWhole_whole _) oM (Memref.isWhole_whole _) tM (Memref.isWhole_whole _) pM (Memref.isWhole_whole _) gM (Memref.isWhole_whole _) rM (Memref.isWhole_whole _) aM (Memref.isWhole_whole _) cc0_scratch5 cc0_scratch6 cc0_scratch7 cc0_scratch8 cc0_scratch9
abbrev P14 := k0_part14 (F := F) hM (Memref.isWhole_whole _) xM (Memref.isWhole_whole _) oM (Memref.isWhole_whole _) tM (Memref.isWhole_whole _) pM (Memref.isWhole_whole _) gM (Memref.isWhole_whole _) rM (Memref.isWhole_whole _) aM (Memref.isWhole_whole _) cc0_scratch5 cc0_scratch6 cc0_scratch7 cc0_scratch8 cc0_scratch9
abbrev P15 := k0_part15 (F := F) hM (Memref.isWhole_whole _) xM (Memref.isWhole_whole _) oM (Memref.isWhole_whole _) tM (Memref.isWhole_whole _) pM (Memref.isWhole_whole _) gM (Memref.isWhole_whole _) rM (Memref.isWhole_whole _) aM (Memref.isWhole_whole _) cc0_scratch5 cc0_scratch6 cc0_scratch7 cc0_scratch8 cc0_scratch9
abbrev P16 := k0_part16 (F := F) hM (Memref.isWhole_whole _) xM (Memref.isWhole_whole _) oM (Memref.isWhole_whole _) tM (Memref.isWhole_whole _) pM (Memref.isWhole_whole _) gM (Memref.isWhole_whole _) rM (Memref.isWhole_whole _) aM (Memref.isWhole_whole _) cc0_scratch5 cc0_scratch6 cc0_scratch7 cc0_scratch8 cc0_scratch9

/-! ## All the peers, in the orders of the kernel -/

omit [FloatOps F] in
theorem ring_list (c : Dev nD) (Φ : Dev nD → sProp 𝕄) : bigSep (Finset.univ.erase c) Φ
    = iprop(Φ (nx c 1) ∗ Φ (nx c 2) ∗ Φ (nx c 3) ∗ Φ (nx c 4) ∗ Φ (nx c 5) ∗ Φ (nx c 6) ∗ Φ (nx c 7)) := by
  rw [bigSep_eq_bigSepL_of_eq (ringOrder c) (ringOrder_set c).symm (ringOrder_nodup c)]; rfl
omit [FloatOps F] in
theorem send_list (c : Dev nD) (Φ : Dev nD → sProp 𝕄) : bigSep (Finset.univ.erase c) Φ
    = iprop(Φ (evenOf (chunkOf c 0)) ∗ Φ (oddOf (chunkOf c 0)) ∗ Φ (evenOf (chunkOf c 1)) ∗ Φ (oddOf (chunkOf c 1))
        ∗ Φ (evenOf (chunkOf c 2)) ∗ Φ (oddOf (chunkOf c 2)) ∗ Φ (pair c)) := by
  rw [bigSep_eq_bigSepL_of_eq (sendOrder c) (sendOrder_set c).symm (sendOrder_nodup c)]; rfl
omit [FloatOps F] in
theorem all_list (Φ : Dev nD → sProp 𝕄) : bigSep Finset.univ Φ
    = iprop(Φ 0 ∗ Φ 1 ∗ Φ 2 ∗ Φ 3 ∗ Φ 4 ∗ Φ 5 ∗ Φ 6 ∗ Φ 7) := by
  rw [bigSep_univ_eq_bigSepL [(0 : Dev nD), 1, 2, 3, 4, 5, 6, 7] (by decide) (by decide)]; rfl
omit [FloatOps F] in
theorem own_ring (c : Dev nD) (Φ : Dev nD → sProp 𝕄) : bigSep Finset.univ Φ
    = iprop(Φ c ∗ Φ (nx c 1) ∗ Φ (nx c 2) ∗ Φ (nx c 3) ∗ Φ (nx c 4) ∗ Φ (nx c 5) ∗ Φ (nx c 6) ∗ Φ (nx c 7)) := by
  rw [bigSep_erase (Finset.mem_univ c), ring_list]; rfl
omit [FloatOps F] in
theorem own_send (c : Dev nD) (Φ : Dev nD → sProp 𝕄) : bigSep Finset.univ Φ
    = iprop(Φ c ∗ Φ (evenOf (chunkOf c 0)) ∗ Φ (oddOf (chunkOf c 0)) ∗ Φ (evenOf (chunkOf c 1)) ∗ Φ (oddOf (chunkOf c 1))
        ∗ Φ (evenOf (chunkOf c 2)) ∗ Φ (oddOf (chunkOf c 2)) ∗ Φ (pair c)) := by
  rw [bigSep_erase (Finset.mem_univ c), send_list]; rfl

/-- The barrier's payments: the rows of the peers, in the orders in which they are filled. -/
theorem bar_deal (c : Dev nD) : bigSep (Finset.univ.erase c) (fun d => (barPay c d : sProp 𝕄))
    ⊢ iprop((rAny (evenOf (chunkOf c 0)) c ∗ rAny (oddOf (chunkOf c 0)) c ∗ rAny (evenOf (chunkOf c 1)) c ∗ rAny (oddOf (chunkOf c 1)) c
        ∗ rAny (evenOf (chunkOf c 2)) c ∗ rAny (oddOf (chunkOf c 2)) c ∗ rAny (pair c) c)
      ∗ bigSep (Finset.univ.erase c) fun d => aAny d c) := by
  unfold barPay
  rw [bigSep_sep', send_list c fun d => rAny d c]

/-- The sum is dealt out to the copies that read it, and comes back whole. -/
theorem g_deal (c : Dev nD) : gWhole m c = bigSep (Finset.univ.erase c) fun p => gPts m c p := by
  unfold gWhole gPts
  rw [show (gM : Memref sig .tc .vmem S64x256 .bf16).view.set = Finset.univ from View.set_whole _]
  exact Transfers.pointsTo_deal (Finset.univ.erase c) ⟨nx c 1, Finset.mem_erase.mpr ⟨nx_ne c 0, Finset.mem_univ _⟩⟩ fullShare

theorem g_ring (c : Dev nD) : gWhole m c ⊢ iprop(gPts m c (nx c 1) ∗ gPts m c (nx c 2) ∗ gPts m c (nx c 3) ∗ gPts m c (nx c 4)
    ∗ gPts m c (nx c 5) ∗ gPts m c (nx c 6) ∗ gPts m c (nx c 7)) := by
  rw [g_deal, ring_list]
/-- The rows of the peers' second landing buffers, in the order of the ring. -/
theorem a_ring (c : Dev nD) : (bigSep (Finset.univ.erase c) fun d => (aAny d c : sProp 𝕄)) ⊢ iprop(aAny (nx c 1) c ∗ aAny (nx c 2) c ∗ aAny (nx c 3) c
    ∗ aAny (nx c 4) c ∗ aAny (nx c 5) c ∗ aAny (nx c 6) c ∗ aAny (nx c 7) c) := by
  rw [ring_list]

/-- A filled landing buffer, row by row. -/
theorem r_all (c : Dev nD) : (bigSep Finset.univ fun s => rPts m c s) ⊢ iprop(rPts m c 0 ∗ rPts m c 1 ∗ rPts m c 2 ∗ rPts m c 3
    ∗ rPts m c 4 ∗ rPts m c 5 ∗ rPts m c 6 ∗ rPts m c 7) := by rw [all_list]
theorem a_all (c : Dev nD) : (bigSep Finset.univ fun s => aPts m c s) ⊢ iprop(aPts m c 0 ∗ aPts m c 1 ∗ aPts m c 2 ∗ aPts m c 3
    ∗ aPts m c 4 ∗ aPts m c 5 ∗ aPts m c 6 ∗ aPts m c 7) := by rw [all_list]

/-! ## Casts between a block and a row -/

omit [FloatOps F] in
theorem row1_back (v : Vec F S64x256 .bf16) : shapeCast S64x256 (row1 v) shapeCasts_S1x64x256_S64x256 = v := shapeCast_shapeCast _ _ _
theorem pay10_eq (c : Dev nD) :
    k0_pay10 (k0_pay8 (row1 (shareV m 0 c)) (row1 (shareV m 1 c)) (row1 (shareV m 2 c)) (row1 (shareV m 3 c)) (row1 (shareV m 4 c)))
      (row1 (shareV m 5 c)) (row1 (shareV m 6 c)) (row1 (shareV m 7 c)) = sumV m c := shapeCast_self _ _

/-- A semaphore that a device has for itself is never paid, so it is closed where it stands. -/
theorem self_close (c : Dev nD) (a : Fin 4) : iprop(recs m K ∗ pos c a c) ⊢ (iprop(|={Set.univ}=> fin c a c) : sProp 𝕄) := by
  unfold pos fin
  iintro ⟨#HR, H⟩
  iapply (Rounds.cell_close ER (rd m) (Set.mem_univ _) (fun h => h) (duties_self m c a)) $$ [H]
  isplitr; · iapply (inv_x m K c a c); iexact HR
  iexact H

end Cert.Gather

end
-- ==== Proof.Gather.PartsA.lean ====
/- The kernel's first parts: the partial results are formed and sent out. -/
module

public import proofs.«01_k».proof.Proof.Gather.Bundles

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 34 → ℕ)

/-- What the table's semaphore hands over. -/
theorem tabPay_open (c : Dev nD) : tabPay m c ⊢ iprop(tPts m c ∗ argPts m c) := by
  unfold tabPay tPts argPts
  rw [show (hM : Memref sig .tc .hbm S2048x256 .f32).view.set = Finset.univ from View.set_whole _]

/-- Part 1: the table's copy starts, and five signals go out. -/
theorem part1_run (c : Dev nD) {α : Type} {Q : α → sProp 𝕄} {k : (Σ' (d0 : Dev nD) (v2 : BitVec 32) (v3 : Sems sig S_), BitVec 32) → Prog (TpuEff nD τ sig (Elt F) Λ₀ .tc) α} :
    iprop(recs m K ∗ argPts m c ∗ (∃ f, ((c : Thread nD τ).loc cc0_scratch0) ↦{fullShare} f) ∗ dutyTok ER (tabC c) 0 c ∗ debt c (barFrom c 0) ∗ sigR c (nx c 1) ∗ sigR c (nx c 2) ∗ sigR c (nx c 3) ∗ sigR c (nx c 4) ∗ sigR c (nx c 5))
      ⊢ iprop((∀ v, (cred (tallyAt (tabC c) () NT) ∗ debt c (barFrom c 5)) -∗ WP c (k ⟨c, place c, SemArray.scalar (sig.barrier 0 rfl), v⟩) Q)
        -∗ WP c (P1  >>= k) Q) := by
  simp only [P1, k0_part1_eq_skeleton]
  unfold k0_part1_skel
  simp only [semSignalWord, semWaitWord, Prog.lift, Prog.bind_op, Prog.bind_ret, Prog.pure_eq_ret, wp_deviceId]
  iintro ⟨#HR, HA, HT, Hd, HO, Hs1, Hs2, Hs3, Hs4, Hs5⟩ Hk
  iapply (tab_step m K sem9_eq) $$ [HA HT Hd]
  · isplitr; · iexact HR
    isplitl [HA]; · iexact HA
    isplitl [HT]; · iexact HT
    iexact Hd
  iintro Htc
  iapply (sig_go m K (dev1 c) (nx_ne c 0) (l₀ := barFrom c 0) (l := barFrom c 1) rfl (by decide)) $$ [HO Hs1]
  · isplitr; · iexact HR
    isplitl [HO]; · iexact HO
    iexact Hs1
  iintro HO
  iapply (sig_go m K (dev2 c) (nx_ne c 1) (l₀ := barFrom c 1) (l := barFrom c 2) rfl (by decide)) $$ [HO Hs2]
  · isplitr; · iexact HR
    isplitl [HO]; · iexact HO
    iexact Hs2
  iintro HO
  iapply (sig_go m K (dev3 c) (nx_ne c 2) (l₀ := barFrom c 2) (l := barFrom c 3) rfl (by decide)) $$ [HO Hs3]
  · isplitr; · iexact HR
    isplitl [HO]; · iexact HO
    iexact Hs3
  iintro HO
  iapply (sig_go m K (dev4 c) (nx_ne c 3) (l₀ := barFrom c 3) (l := barFrom c 4) rfl (by decide)) $$ [HO Hs4]
  · isplitr; · iexact HR
    isplitl [HO]; · iexact HO
    iexact Hs4
  iintro HO
  iapply (sig_go m K (dev5 c) (nx_ne c 4) (l₀ := barFrom c 4) (l := barFrom c 5) rfl (by decide)) $$ [HO Hs5]
  · isplitr; · iexact HR
    isplitl [HO]; · iexact HO
    iexact Hs5
  iintro HO
  rw [show Scalar.remsi (Scalar.divsi (Dev.word c) 1#32) 8#32 = place c from rfl]
  iapply Hk
  isplitl [Htc]; · iexact Htc
  iexact HO

/-- Part 2: the last two signals, the table, and the first pair's rows. -/
theorem part2_run (c : Dev nD) (v24 : BitVec 32) {α : Type} {Q : α → sProp 𝕄} {k : (Σ' (v32 : BitVec 32) (v34 : FVec F S2048x256 .bf16) (v35 : BitVec 32), BitVec 32) → Prog (TpuEff nD τ sig (Elt F) Λ₀ .tc) α} :
    iprop(recs m K ∗ debt c (barFrom c 5) ∗ sigR c (nx c 6) ∗ sigR c (nx c 7) ∗ cred (tallyAt (tabC c) () NT) ∗ atPos ER (tabC c) 0 ∅ 0 ∗ xPts m c ∗ chunkAny c (chunkOf c 0))
      ⊢ iprop((∀ v v', (debt c (rsFrom c 0) ∗ semVal (tabC c) 0 ∗ argPts m c ∗ tPts m c ∗ xPts m c ∗ segPts m c (evenOf (chunkOf c 0)) ∗ segPts m c (oddOf (chunkOf c 0))) -∗ WP c (k ⟨(Scalar.muli (place c) 2048#32), (k0_pay1 (tabV m c)), v, v'⟩) Q)
        -∗ WP c (P2 c (place c) (SemArray.scalar (sig.barrier 0 rfl)) v24 >>= k) Q) := by
  simp only [P2, k0_part2_eq_skeleton]
  unfold k0_part2_skel
  simp only [semSignalWord, semWaitWord, Prog.lift, Prog.bind_op, Prog.bind_ret, Prog.pure_eq_ret, wp_deviceId]
  iintro ⟨#HR, HO, Hs6, Hs7, Htc, Htp, HX, Hk0⟩ Hk
  iapply (sig_go m K (dev6 c) (nx_ne c 5) (l₀ := barFrom c 5) (l := barFrom c 6) rfl (by decide)) $$ [HO Hs6]
  · isplitr; · iexact HR
    isplitl [HO]; · iexact HO
    iexact Hs6
  iintro HO
  iapply (sig_go m K (dev7 c) (nx_ne c 6) (l₀ := barFrom c 6) (l := rsFrom c 0) rfl (by decide)) $$ [HO Hs7]
  · isplitr; · iexact HR
    isplitl [HO]; · iexact HO
    iexact Hs7
  iintro HO
  iapply (tabwait_step m K (l := rsFrom c 0) (mayWait_bar c _ (by decide)) sem9_eq) $$ [HO Htc Htp]
  · isplitr; · iexact HR
    isplitl [HO]; · iexact HO
    isplitl [Htc]; · iexact Htc
    iexact Htp
  iintro ⟨HO, Hts, HP⟩
  icases (show tabPay m c ⊢ iprop(tPts m c ∗ argPts m c) from tabPay_open m c) $$ HP with ⟨HT, HA⟩
  iapply (tab_load m) $$ [HT]
  · iexact HT
  iintro HT
  iapply (ids_step m (chunkOf c 0) (ids0 c)) $$ [HX]
  · iexact HX
  iintro HX
  iapply (chunk_step m (chunkOf c 0) (evenOf (chunkOf c 0)) (oddOf (chunkOf c 0)) (even_half _) (odd_half _) (even_ne_odd _) (chunk0 c) rfl) $$ [Hk0]
  · iexact Hk0
  iintro ⟨Hg0, Hg1⟩
  iapply Hk
  isplitl [HO]; · iexact HO
  isplitl [Hts]; · iexact Hts
  isplitl [HA]; · iexact HA
  isplitl [HT]; · iexact HT
  isplitl [HX]; · iexact HX
  isplitl [Hg0]; · iexact Hg0
  iexact Hg1

/-- Part 3: the barrier, the first pair's two copies, and the second pair's indices. -/
theorem part3_run (c : Dev nD) (v35 v38 : BitVec 32) {α : Type} {Q : α → sProp 𝕄} {k : (Σ' (v84 : BitVec 32), FVec F S2048x128 .f32) → Prog (TpuEff nD τ sig (Elt F) Λ₀ .tc) α} :
    iprop(recs m K ∗ debt c (rsFrom c 0) ∗ cred (tallyAt (barC c) () 7) ∗ atPos ER (barC c) 0 ∅ 0 ∗ segPts m c (evenOf (chunkOf c 0)) ∗ rsT c (evenOf (chunkOf c 0)) ∗ segPts m c (oddOf (chunkOf c 0)) ∗ rsT c (oddOf (chunkOf c 0)) ∗ xPts m c)
      ⊢ iprop((∀ v, (semVal (barC c) 0 ∗ rAny (evenOf (chunkOf c 1)) c ∗ rAny (oddOf (chunkOf c 1)) c ∗ rAny (evenOf (chunkOf c 2)) c ∗ rAny (oddOf (chunkOf c 2)) c ∗ rAny (pair c) c ∗ (bigSep (Finset.univ.erase c) fun d => aAny d c) ∗ crd c 0 (evenOf (chunkOf c 0)) ∗ debt c (rsFrom c 2) ∗ crd c 0 (oddOf (chunkOf c 0)) ∗ xPts m c) -∗ WP c (k ⟨v, (k0_pay3 (Scalar.muli (place c) 2048#32) (idsV m c (chunkOf c 1)))⟩) Q)
        -∗ WP c (P3 c (SemArray.scalar (sig.barrier 0 rfl)) (Scalar.muli (place c) 2048#32) v35 v38 >>= k) Q) := by
  simp only [P3, k0_part3_eq_skeleton]
  unfold k0_part3_skel
  simp only [semSignalWord, semWaitWord, Prog.lift, Prog.bind_op, Prog.bind_ret, Prog.pure_eq_ret, wp_deviceId]
  iintro ⟨#HR, HO, Hbc, Hbp, Hg0, Ht0, Hg1, Ht1, HX⟩ Hk
  iapply (bar_step m K (l := rsFrom c 0) (mayWait_bar c _ (by decide)) (by decide)) $$ [HO Hbc Hbp]
  · isplitr; · iexact HR
    isplitl [HO]; · iexact HO
    isplitl [Hbc]; · iexact Hbc
    iexact Hbp
  iintro ⟨HO, Hbs, HP⟩
  icases (bar_deal c) $$ HP with ⟨⟨Hr0, Hr1, Hr2, Hr3, Hr4, Hr5, Hr6⟩, HB⟩
  iapply (rs_go m K (devEven0 c) (even_ne c 0) (l₀ := rsFrom c 0) (l := rsFrom c 1) rfl (segEven0 c) (rowSelf c) (sem5_eq _ _ _ (semEven0 c)) (sem6_eq _ _ _ (semSelf c))) $$ [HO Hg0 Hr0 Ht0]
  · isplitr; · iexact HR
    isplitl [HO]; · iexact HO
    isplitl [Hg0]; · iexact Hg0
    isplitl [Hr0]; · iexact Hr0
    iexact Ht0
  iintro ⟨HO, Hc0⟩
  iapply (rs_go m K (devOdd0 c) (odd_ne c 0) (l₀ := rsFrom c 1) (l := rsFrom c 2) rfl (segOdd0 c) (rowSelf c) (sem5_eq _ _ _ (semOdd0 c)) (sem6_eq _ _ _ (semSelf c))) $$ [HO Hg1 Hr1 Ht1]
  · isplitr; · iexact HR
    isplitl [HO]; · iexact HO
    isplitl [Hg1]; · iexact Hg1
    isplitl [Hr1]; · iexact Hr1
    iexact Ht1
  iintro ⟨HO, Hc1⟩
  iapply (ids_step m (chunkOf c 1) (ids1 c)) $$ [HX]
  · iexact HX
  iintro HX
  iapply Hk
  isplitl [Hbs]; · iexact Hbs
  isplitl [Hr2]; · iexact Hr2
  isplitl [Hr3]; · iexact Hr3
  isplitl [Hr4]; · iexact Hr4
  isplitl [Hr5]; · iexact Hr5
  isplitl [Hr6]; · iexact Hr6
  isplitl [HB]; · iexact HB
  isplitl [Hc0]; · iexact Hc0
  isplitl [HO]; · iexact HO
  isplitl [Hc1]; · iexact Hc1
  iexact HX

/-- Part 4: the second pair's rows and copies. -/
theorem part4_run (c : Dev nD) (v35 v84 : BitVec 32) {α : Type} {Q : α → sProp 𝕄} {k : (Σ' (v130 : BitVec 32), BitVec 32) → Prog (TpuEff nD τ sig (Elt F) Λ₀ .tc) α} :
    iprop(recs m K ∗ chunkAny c (chunkOf c 1) ∗ debt c (rsFrom c 2) ∗ rAny (evenOf (chunkOf c 1)) c ∗ rsT c (evenOf (chunkOf c 1)) ∗ rAny (oddOf (chunkOf c 1)) c ∗ rsT c (oddOf (chunkOf c 1)))
      ⊢ iprop((∀ v v', (crd c 0 (evenOf (chunkOf c 1)) ∗ debt c (rsFrom c 4) ∗ crd c 0 (oddOf (chunkOf c 1))) -∗ WP c (k ⟨v, v'⟩) Q)
        -∗ WP c (P4 c (k0_pay1 (tabV m c)) v35 v84 (k0_pay3 (Scalar.muli (place c) 2048#32) (idsV m c (chunkOf c 1))) >>= k) Q) := by
  simp only [P4, k0_part4_eq_skeleton]
  unfold k0_part4_skel
  simp only [semSignalWord, semWaitWord, Prog.lift, Prog.bind_op, Prog.bind_ret, Prog.pure_eq_ret, wp_deviceId]
  iintro ⟨#HR, Hk1, HO, Hr2, Ht2, Hr3, Ht3⟩ Hk
  iapply (chunk_step m (chunkOf c 1) (evenOf (chunkOf c 1)) (oddOf (chunkOf c 1)) (even_half _) (odd_half _) (even_ne_odd _) (chunk1 c) rfl) $$ [Hk1]
  · iexact Hk1
  iintro ⟨Hg2, Hg3⟩
  iapply (rs_go m K (devEven1 c) (even_ne c 1) (l₀ := rsFrom c 2) (l := rsFrom c 3) rfl (segEven1 c) (rowSelf c) (sem5_eq _ _ _ (semEven1 c)) (sem6_eq _ _ _ (semSelf c))) $$ [HO Hg2 Hr2 Ht2]
  · isplitr; · iexact HR
    isplitl [HO]; · iexact HO
    isplitl [Hg2]; · iexact Hg2
    isplitl [Hr2]; · iexact Hr2
    iexact Ht2
  iintro ⟨HO, Hc2⟩
  iapply (rs_go m K (devOdd1 c) (odd_ne c 1) (l₀ := rsFrom c 3) (l := rsFrom c 4) rfl (segOdd1 c) (rowSelf c) (sem5_eq _ _ _ (semOdd1 c)) (sem6_eq _ _ _ (semSelf c))) $$ [HO Hg3 Hr3 Ht3]
  · isplitr; · iexact HR
    isplitl [HO]; · iexact HO
    isplitl [Hg3]; · iexact Hg3
    isplitl [Hr3]; · iexact Hr3
    iexact Ht3
  iintro ⟨HO, Hc3⟩
  iapply Hk
  isplitl [Hc2]; · iexact Hc2
  isplitl [HO]; · iexact HO
  iexact Hc3

/-- Part 5: the third pair's rows, and its first copy. -/
theorem part5_run (c : Dev nD) (v130 v131 : BitVec 32) {α : Type} {Q : α → sProp 𝕄} {k : PUnit → Prog (TpuEff nD τ sig (Elt F) Λ₀ .tc) α} :
    iprop(recs m K ∗ xPts m c ∗ chunkAny c (chunkOf c 2) ∗ debt c (rsFrom c 4) ∗ rAny (evenOf (chunkOf c 2)) c ∗ rsT c (evenOf (chunkOf c 2)))
      ⊢ iprop(((xPts m c ∗ segPts m c (oddOf (chunkOf c 2)) ∗ debt c (rsFrom c 5) ∗ crd c 0 (evenOf (chunkOf c 2))) -∗ WP c (k ⟨⟩) Q)
        -∗ WP c (P5 c (Scalar.muli (place c) 2048#32) (k0_pay1 (tabV m c)) v130 v131 >>= k) Q) := by
  simp only [P5, k0_part5_eq_skeleton]
  unfold k0_part5_skel
  simp only [semSignalWord, semWaitWord, Prog.lift, Prog.bind_op, Prog.bind_ret, Prog.pure_eq_ret, wp_deviceId]
  iintro ⟨#HR, HX, Hk2, HO, Hr4, Ht4⟩ Hk
  iapply (ids_step m (chunkOf c 2) (ids2 c)) $$ [HX]
  · iexact HX
  iintro HX
  iapply (chunk_step m (chunkOf c 2) (evenOf (chunkOf c 2)) (oddOf (chunkOf c 2)) (even_half _) (odd_half _) (even_ne_odd _) (chunk2 c) rfl) $$ [Hk2]
  · iexact Hk2
  iintro ⟨Hg4, Hg5⟩
  iapply (rs_go m K (devEven2 c) (even_ne c 2) (l₀ := rsFrom c 4) (l := rsFrom c 5) rfl (segEven2 c) (rowSelf c) (sem5_eq _ _ _ (semEven2 c)) (sem6_eq _ _ _ (semSelf c))) $$ [HO Hg4 Hr4 Ht4]
  · isplitr; · iexact HR
    isplitl [HO]; · iexact HO
    isplitl [Hg4]; · iexact Hg4
    isplitl [Hr4]; · iexact Hr4
    iexact Ht4
  iintro ⟨HO, Hc4⟩
  iapply Hk
  isplitl [HX]; · iexact HX
  isplitl [Hg5]; · iexact Hg5
  isplitl [HO]; · iexact HO
  iexact Hc4

/-- Part 6: the third pair's second copy, the own pair's rows, and the own block put in its row. -/
theorem part6_run (c : Dev nD) (v35 : BitVec 32) {α : Type} {Q : α → sProp 𝕄} {k : PUnit → Prog (TpuEff nD τ sig (Elt F) Λ₀ .tc) α} :
    iprop(recs m K ∗ debt c (rsFrom c 5) ∗ segPts m c (oddOf (chunkOf c 2)) ∗ rAny (oddOf (chunkOf c 2)) c ∗ rsT c (oddOf (chunkOf c 2)) ∗ xPts m c ∗ chunkAny c (chunkOf c 3) ∗ rAny c c)
      ⊢ iprop(((debt c (rsFrom c 6) ∗ crd c 0 (oddOf (chunkOf c 2)) ∗ xPts m c ∗ segPts m c (pair c) ∗ segPts m c c ∗ rPts m c c) -∗ WP c (k ⟨⟩) Q)
        -∗ WP c (P6 c (place c) (Scalar.muli (place c) 2048#32) (k0_pay1 (tabV m c)) v35 >>= k) Q) := by
  simp only [P6, k0_part6_eq_skeleton]
  unfold k0_part6_skel
  simp only [semSignalWord, semWaitWord, Prog.lift, Prog.bind_op, Prog.bind_ret, Prog.pure_eq_ret, wp_deviceId]
  iintro ⟨#HR, HO, Hg5, Hr5, Ht5, HX, Hk3, Hrc⟩ Hk
  iapply (rs_go m K (devOdd2 c) (odd_ne c 2) (l₀ := rsFrom c 5) (l := rsFrom c 6) rfl (segOdd2 c) (rowSelf c) (sem5_eq _ _ _ (semOdd2 c)) (sem6_eq _ _ _ (semSelf c))) $$ [HO Hg5 Hr5 Ht5]
  · isplitr; · iexact HR
    isplitl [HO]; · iexact HO
    isplitl [Hg5]; · iexact Hg5
    isplitl [Hr5]; · iexact Hr5
    iexact Ht5
  iintro ⟨HO, Hc5⟩
  iapply (ids_step m (chunkOf c 3) (ids3 c)) $$ [HX]
  · iexact HX
  iintro HX
  iapply (chunk_step m (chunkOf c 3) c (pair c) (self_half c) (pair_half c) (pair_ne c).symm (chunk3 c) rfl) $$ [Hk3]
  · iexact Hk3
  iintro ⟨Hgc, Hg6⟩
  iapply (seg_load m (segSelf c)) $$ [Hgc]
  · iexact Hgc
  iintro Hgc
  iapply (r_put m (rowSelf' c) rfl) $$ [Hrc]
  · iexact Hrc
  iintro Hwc
  iapply Hk
  isplitl [HO]; · iexact HO
  isplitl [Hc5]; · iexact Hc5
  isplitl [HX]; · iexact HX
  isplitl [Hg6]; · iexact Hg6
  isplitl [Hgc]; · iexact Hgc
  iexact Hwc

/-- Part 7: the last copy of a block, and the first two landings. -/
theorem part7_run (c : Dev nD) {α : Type} {Q : α → sProp 𝕄} {k : PUnit → Prog (TpuEff nD τ sig (Elt F) Λ₀ .tc) α} :
    iprop(recs m K ∗ debt c (rsFrom c 6) ∗ segPts m c (pair c) ∗ rAny (pair c) c ∗ rsT c (pair c) ∗ crd c 1 (nx c 1) ∗ pos c 1 (nx c 1) ∗ crd c 1 (nx c 2) ∗ pos c 1 (nx c 2))
      ⊢ iprop(((crd c 0 (pair c) ∗ fin c 1 (nx c 1) ∗ rPts m c (nx c 1) ∗ debt c (agFrom c 0) ∗ fin c 1 (nx c 2) ∗ rPts m c (nx c 2)) -∗ WP c (k ⟨⟩) Q)
        -∗ WP c (P7 c (place c) >>= k) Q) := by
  simp only [P7, k0_part7_eq_skeleton]
  unfold k0_part7_skel
  simp only [semSignalWord, semWaitWord, Prog.lift, Prog.bind_op, Prog.bind_ret, Prog.pure_eq_ret, wp_deviceId]
  iintro ⟨#HR, HO, Hg6, Hr6, Ht6, Hrk1, Hrp1, Hrk2, Hrp2⟩ Hk
  iapply (rs_go m K (devPair c) (pair_ne c) (l₀ := rsFrom c 6) (l := agFrom c 0) rfl (segPair c) (rowSelf c) (sem5_eq _ _ _ (semPair c)) (sem6_eq _ _ _ (semSelf c))) $$ [HO Hg6 Hr6 Ht6]
  · isplitr; · iexact HR
    isplitl [HO]; · iexact HO
    isplitl [Hg6]; · iexact Hg6
    isplitl [Hr6]; · iexact Hr6
    iexact Ht6
  iintro ⟨HO, Hc6⟩
  iapply (wait_go m K 1 (nx_ne c 0) (l := agFrom c 0) (mayWait_rs c _) (sem6_eq _ _ _ (semNx1 c)) (credit_r _ _ _) (X := rPts m c (nx c 1)) rfl) $$ [HO Hrk1 Hrp1]
  · isplitr; · iexact HR
    isplitl [HO]; · iexact HO
    isplitl [Hrk1]; · iexact Hrk1
    iexact Hrp1
  iintro ⟨HO, Hrf1, Hw1⟩
  iapply (wait_go m K 1 (nx_ne c 1) (l := agFrom c 0) (mayWait_rs c _) (sem6_eq _ _ _ (semNx2 c)) (credit_r _ _ _) (X := rPts m c (nx c 2)) rfl) $$ [HO Hrk2 Hrp2]
  · isplitr; · iexact HR
    isplitl [HO]; · iexact HO
    isplitl [Hrk2]; · iexact Hrk2
    iexact Hrp2
  iintro ⟨HO, Hrf2, Hw2⟩
  iapply Hk
  isplitl [Hc6]; · iexact Hc6
  isplitl [Hrf1]; · iexact Hrf1
  isplitl [Hw1]; · iexact Hw1
  isplitl [HO]; · iexact HO
  isplitl [Hrf2]; · iexact Hrf2
  iexact Hw2

end Cert.Gather

end
-- ==== Proof.Gather.PartsB.lean ====
/- The kernel's middle parts: the blocks arrive, are added, and the sum is sent out. -/
module

public import proofs.«01_k».proof.Proof.Gather.Bundles

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 34 → ℕ)

/-- Part 8: three more landings. -/
theorem part8_run (c : Dev nD) {α : Type} {Q : α → sProp 𝕄} {k : PUnit → Prog (TpuEff nD τ sig (Elt F) Λ₀ .tc) α} :
    iprop(recs m K ∗ debt c (agFrom c 0) ∗ crd c 1 (nx c 3) ∗ pos c 1 (nx c 3) ∗ crd c 1 (nx c 4) ∗ pos c 1 (nx c 4) ∗ crd c 1 (nx c 5) ∗ pos c 1 (nx c 5))
      ⊢ iprop(((fin c 1 (nx c 3) ∗ rPts m c (nx c 3) ∗ fin c 1 (nx c 4) ∗ rPts m c (nx c 4) ∗ debt c (agFrom c 0) ∗ fin c 1 (nx c 5) ∗ rPts m c (nx c 5)) -∗ WP c (k ⟨⟩) Q)
        -∗ WP c (P8 c (place c) >>= k) Q) := by
  simp only [P8, k0_part8_eq_skeleton]
  unfold k0_part8_skel
  simp only [semSignalWord, semWaitWord, Prog.lift, Prog.bind_op, Prog.bind_ret, Prog.pure_eq_ret, wp_deviceId]
  iintro ⟨#HR, HO, Hrk3, Hrp3, Hrk4, Hrp4, Hrk5, Hrp5⟩ Hk
  iapply (wait_go m K 1 (nx_ne c 2) (l := agFrom c 0) (mayWait_rs c _) (sem6_eq _ _ _ (semNx3 c)) (credit_r _ _ _) (X := rPts m c (nx c 3)) rfl) $$ [HO Hrk3 Hrp3]
  · isplitr; · iexact HR
    isplitl [HO]; · iexact HO
    isplitl [Hrk3]; · iexact Hrk3
    iexact Hrp3
  iintro ⟨HO, Hrf3, Hw3⟩
  iapply (wait_go m K 1 (nx_ne c 3) (l := agFrom c 0) (mayWait_rs c _) (sem6_eq _ _ _ (semNx4 c)) (credit_r _ _ _) (X := rPts m c (nx c 4)) rfl) $$ [HO Hrk4 Hrp4]
  · isplitr; · iexact HR
    isplitl [HO]; · iexact HO
    isplitl [Hrk4]; · iexact Hrk4
    iexact Hrp4
  iintro ⟨HO, Hrf4, Hw4⟩
  iapply (wait_go m K 1 (nx_ne c 4) (l := agFrom c 0) (mayWait_rs c _) (sem6_eq _ _ _ (semNx5 c)) (credit_r _ _ _) (X := rPts m c (nx c 5)) rfl) $$ [HO Hrk5 Hrp5]
  · isplitr; · iexact HR
    isplitl [HO]; · iexact HO
    isplitl [Hrk5]; · iexact Hrk5
    iexact Hrp5
  iintro ⟨HO, Hrf5, Hw5⟩
  iapply Hk
  isplitl [Hrf3]; · iexact Hrf3
  isplitl [Hw3]; · iexact Hw3
  isplitl [Hrf4]; · iexact Hrf4
  isplitl [Hw4]; · iexact Hw4
  isplitl [HO]; · iexact HO
  isplitl [Hrf5]; · iexact Hrf5
  iexact Hw5

/-- Part 9: the last two landings, and the sum of five rows. -/
theorem part9_run (c : Dev nD) {α : Type} {Q : α → sProp 𝕄} {k : (FVec F S64x256 .f32) → Prog (TpuEff nD τ sig (Elt F) Λ₀ .tc) α} :
    iprop(recs m K ∗ debt c (agFrom c 0) ∗ crd c 1 (nx c 6) ∗ pos c 1 (nx c 6) ∗ crd c 1 (nx c 7) ∗ pos c 1 (nx c 7) ∗ rPts m c c ∗ rPts m c (nx c 1) ∗ rPts m c (nx c 2) ∗ rPts m c (nx c 3) ∗ rPts m c (nx c 4) ∗ rPts m c (nx c 5))
      ⊢ iprop(((fin c 1 (nx c 6) ∗ debt c (agFrom c 0) ∗ fin c 1 (nx c 7) ∗ rPts m c 5 ∗ rPts m c 6 ∗ rPts m c 7 ∗ rPts m c 0 ∗ rPts m c 1 ∗ rPts m c 2 ∗ rPts m c 3 ∗ rPts m c 4) -∗ WP c (k (k0_pay8 (row1 (shareV m 0 c)) (row1 (shareV m 1 c)) (row1 (shareV m 2 c)) (row1 (shareV m 3 c)) (row1 (shareV m 4 c)))) Q)
        -∗ WP c (P9 c (place c) >>= k) Q) := by
  simp only [P9, k0_part9_eq_skeleton]
  unfold k0_part9_skel
  simp only [semSignalWord, semWaitWord, Prog.lift, Prog.bind_op, Prog.bind_ret, Prog.pure_eq_ret, wp_deviceId]
  iintro ⟨#HR, HO, Hrk6, Hrp6, Hrk7, Hrp7, Hwc, Hw1, Hw2, Hw3, Hw4, Hw5⟩ Hk
  iapply (wait_go m K 1 (nx_ne c 5) (l := agFrom c 0) (mayWait_rs c _) (sem6_eq _ _ _ (semNx6 c)) (credit_r _ _ _) (X := rPts m c (nx c 6)) rfl) $$ [HO Hrk6 Hrp6]
  · isplitr; · iexact HR
    isplitl [HO]; · iexact HO
    isplitl [Hrk6]; · iexact Hrk6
    iexact Hrp6
  iintro ⟨HO, Hrf6, Hw6⟩
  iapply (wait_go m K 1 (nx_ne c 6) (l := agFrom c 0) (mayWait_rs c _) (sem6_eq _ _ _ (semNx7 c)) (credit_r _ _ _) (X := rPts m c (nx c 7)) rfl) $$ [HO Hrk7 Hrp7]
  · isplitr; · iexact HR
    isplitl [HO]; · iexact HO
    isplitl [Hrk7]; · iexact Hrk7
    iexact Hrp7
  iintro ⟨HO, Hrf7, Hw7⟩
  ihave HW : bigSep Finset.univ (fun s => rPts m c s) $$ [Hwc Hw1 Hw2 Hw3 Hw4 Hw5 Hw6 Hw7]
  · rw [own_ring c]
    isplitl [Hwc]; · iexact Hwc
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hw7
  icases (r_all m c) $$ HW with ⟨HR0, HR1, HR2, HR3, HR4, HR5, HR6, HR7⟩
  iapply (r_load m (s := (0 : Dev nD)) rfl) $$ [HR0]
  · iexact HR0
  iintro HR0
  iapply (r_load m (s := (1 : Dev nD)) rfl) $$ [HR1]
  · iexact HR1
  iintro HR1
  iapply (r_load m (s := (2 : Dev nD)) rfl) $$ [HR2]
  · iexact HR2
  iintro HR2
  iapply (r_load m (s := (3 : Dev nD)) rfl) $$ [HR3]
  · iexact HR3
  iintro HR3
  iapply (r_load m (s := (4 : Dev nD)) rfl) $$ [HR4]
  · iexact HR4
  iintro HR4
  iapply Hk
  isplitl [Hrf6]; · iexact Hrf6
  isplitl [HO]; · iexact HO
  isplitl [Hrf7]; · iexact Hrf7
  isplitl [HR5]; · iexact HR5
  isplitl [HR6]; · iexact HR6
  isplitl [HR7]; · iexact HR7
  isplitl [HR0]; · iexact HR0
  isplitl [HR1]; · iexact HR1
  isplitl [HR2]; · iexact HR2
  isplitl [HR3]; · iexact HR3
  iexact HR4

/-- Part 10: the sum of the eight rows is stored and its first copy starts. -/
theorem part10_run (c : Dev nD) {α : Type} {Q : α → sProp 𝕄} {k : PUnit → Prog (TpuEff nD τ sig (Elt F) Λ₀ .tc) α} :
    iprop(recs m K ∗ rPts m c 5 ∗ rPts m c 6 ∗ rPts m c 7 ∗ (∃ f, ((c : Thread nD τ).loc cc0_scratch2) ↦{fullShare} f) ∗ aAny c c ∗ (bigSep (Finset.univ.erase c) fun d => aAny d c) ∗ debt c (agFrom c 0) ∗ agT c (nx c 1))
      ⊢ iprop(((rPts m c 5 ∗ rPts m c 6 ∗ rPts m c 7 ∗ aPts m c c ∗ gPts m c (nx c 2) ∗ gPts m c (nx c 3) ∗ gPts m c (nx c 4) ∗ gPts m c (nx c 5) ∗ gPts m c (nx c 6) ∗ gPts m c (nx c 7) ∗ aAny (nx c 2) c ∗ aAny (nx c 3) c ∗ aAny (nx c 4) c ∗ aAny (nx c 5) c ∗ aAny (nx c 6) c ∗ aAny (nx c 7) c ∗ debt c (agFrom c 1) ∗ crd c 2 (nx c 1)) -∗ WP c (k ⟨⟩) Q)
        -∗ WP c (P10 c (place c) (k0_pay8 (row1 (shareV m 0 c)) (row1 (shareV m 1 c)) (row1 (shareV m 2 c)) (row1 (shareV m 3 c)) (row1 (shareV m 4 c))) >>= k) Q) := by
  simp only [P10, k0_part10_eq_skeleton]
  unfold k0_part10_skel
  simp only [semSignalWord, semWaitWord, Prog.lift, Prog.bind_op, Prog.bind_ret, Prog.pure_eq_ret, wp_deviceId]
  iintro ⟨#HR, HR5, HR6, HR7, HG, Hac, HB, HO, HT1⟩ Hk
  iapply (r_load m (s := (5 : Dev nD)) rfl) $$ [HR5]
  · iexact HR5
  iintro HR5
  iapply (r_load m (s := (6 : Dev nD)) rfl) $$ [HR6]
  · iexact HR6
  iintro HR6
  iapply (r_load m (s := (7 : Dev nD)) rfl) $$ [HR7]
  · iexact HR7
  iintro HR7
  iapply (g_put m (pay10_eq m c)) $$ [HG]
  · iexact HG
  iintro HG
  iapply (a_put m (rowSelf' c) rfl) $$ [Hac]
  · iexact Hac
  iintro Hvc
  icases (g_ring m c) $$ HG with ⟨HG1, HG2, HG3, HG4, HG5, HG6, HG7⟩
  icases (a_ring c) $$ HB with ⟨HB1, HB2, HB3, HB4, HB5, HB6, HB7⟩
  iapply (ag_go m K (devNx1 c) (nx_ne c 0) (l₀ := agFrom c 0) (l := agFrom c 1) rfl (rowSelf c) (sem7_eq _ _ _ (semNx1 c)) (sem8_eq _ _ _ (semSelf c))) $$ [HO HG1 HB1 HT1]
  · isplitr; · iexact HR
    isplitl [HO]; · iexact HO
    isplitl [HG1]; · iexact HG1
    isplitl [HB1]; · iexact HB1
    iexact HT1
  iintro ⟨HO, HC1⟩
  iapply Hk
  isplitl [HR5]; · iexact HR5
  isplitl [HR6]; · iexact HR6
  isplitl [HR7]; · iexact HR7
  isplitl [Hvc]; · iexact Hvc
  isplitl [HG2]; · iexact HG2
  isplitl [HG3]; · iexact HG3
  isplitl [HG4]; · iexact HG4
  isplitl [HG5]; · iexact HG5
  isplitl [HG6]; · iexact HG6
  isplitl [HG7]; · iexact HG7
  isplitl [HB2]; · iexact HB2
  isplitl [HB3]; · iexact HB3
  isplitl [HB4]; · iexact HB4
  isplitl [HB5]; · iexact HB5
  isplitl [HB6]; · iexact HB6
  isplitl [HB7]; · iexact HB7
  isplitl [HO]; · iexact HO
  iexact HC1

/-- Part 11: four copies of the sum. -/
theorem part11_run (c : Dev nD) {α : Type} {Q : α → sProp 𝕄} {k : (Σ' (v377 : BitVec 32), BitVec 32) → Prog (TpuEff nD τ sig (Elt F) Λ₀ .tc) α} :
    iprop(recs m K ∗ debt c (agFrom c 1) ∗ gPts m c (nx c 2) ∗ aAny (nx c 2) c ∗ agT c (nx c 2) ∗ gPts m c (nx c 3) ∗ aAny (nx c 3) c ∗ agT c (nx c 3) ∗ gPts m c (nx c 4) ∗ aAny (nx c 4) c ∗ agT c (nx c 4) ∗ gPts m c (nx c 5) ∗ aAny (nx c 5) c ∗ agT c (nx c 5))
      ⊢ iprop((∀ v v', (crd c 2 (nx c 2) ∗ crd c 2 (nx c 3) ∗ crd c 2 (nx c 4) ∗ debt c (agFrom c 5) ∗ crd c 2 (nx c 5)) -∗ WP c (k ⟨v, v'⟩) Q)
        -∗ WP c (P11 c (place c) >>= k) Q) := by
  simp only [P11, k0_part11_eq_skeleton]
  unfold k0_part11_skel
  simp only [semSignalWord, semWaitWord, Prog.lift, Prog.bind_op, Prog.bind_ret, Prog.pure_eq_ret, wp_deviceId]
  iintro ⟨#HR, HO, HG2, HB2, HT2, HG3, HB3, HT3, HG4, HB4, HT4, HG5, HB5, HT5⟩ Hk
  iapply (ag_go m K (devNx2 c) (nx_ne c 1) (l₀ := agFrom c 1) (l := agFrom c 2) rfl (rowSelf c) (sem7_eq _ _ _ (semNx2 c)) (sem8_eq _ _ _ (semSelf c))) $$ [HO HG2 HB2 HT2]
  · isplitr; · iexact HR
    isplitl [HO]; · iexact HO
    isplitl [HG2]; · iexact HG2
    isplitl [HB2]; · iexact HB2
    iexact HT2
  iintro ⟨HO, HC2⟩
  iapply (ag_go m K (devNx3 c) (nx_ne c 2) (l₀ := agFrom c 2) (l := agFrom c 3) rfl (rowSelf c) (sem7_eq _ _ _ (semNx3 c)) (sem8_eq _ _ _ (semSelf c))) $$ [HO HG3 HB3 HT3]
  · isplitr; · iexact HR
    isplitl [HO]; · iexact HO
    isplitl [HG3]; · iexact HG3
    isplitl [HB3]; · iexact HB3
    iexact HT3
  iintro ⟨HO, HC3⟩
  iapply (ag_go m K (devNx4 c) (nx_ne c 3) (l₀ := agFrom c 3) (l := agFrom c 4) rfl (rowSelf c) (sem7_eq _ _ _ (semNx4 c)) (sem8_eq _ _ _ (semSelf c))) $$ [HO HG4 HB4 HT4]
  · isplitr; · iexact HR
    isplitl [HO]; · iexact HO
    isplitl [HG4]; · iexact HG4
    isplitl [HB4]; · iexact HB4
    iexact HT4
  iintro ⟨HO, HC4⟩
  iapply (ag_go m K (devNx5 c) (nx_ne c 4) (l₀ := agFrom c 4) (l := agFrom c 5) rfl (rowSelf c) (sem7_eq _ _ _ (semNx5 c)) (sem8_eq _ _ _ (semSelf c))) $$ [HO HG5 HB5 HT5]
  · isplitr; · iexact HR
    isplitl [HO]; · iexact HO
    isplitl [HG5]; · iexact HG5
    isplitl [HB5]; · iexact HB5
    iexact HT5
  iintro ⟨HO, HC5⟩
  iapply Hk
  isplitl [HC2]; · iexact HC2
  isplitl [HC3]; · iexact HC3
  isplitl [HC4]; · iexact HC4
  isplitl [HO]; · iexact HO
  iexact HC5

/-- Part 12: the last two copies of the sum, and the first sum's landing. -/
theorem part12_run (c : Dev nD) (v377 c8 : BitVec 32) {α : Type} {Q : α → sProp 𝕄} {k : PUnit → Prog (TpuEff nD τ sig (Elt F) Λ₀ .tc) α} :
    iprop(recs m K ∗ debt c (agFrom c 5) ∗ gPts m c (nx c 6) ∗ aAny (nx c 6) c ∗ agT c (nx c 6) ∗ gPts m c (nx c 7) ∗ aAny (nx c 7) c ∗ agT c (nx c 7) ∗ crd c 3 (nx c 1) ∗ pos c 3 (nx c 1))
      ⊢ iprop(((crd c 2 (nx c 6) ∗ crd c 2 (nx c 7) ∗ debt c (agFrom c 7) ∗ fin c 3 (nx c 1) ∗ aPts m c (nx c 1)) -∗ WP c (k ⟨⟩) Q)
        -∗ WP c (P12 c (place c) v377 c8 >>= k) Q) := by
  simp only [P12, k0_part12_eq_skeleton]
  unfold k0_part12_skel
  simp only [semSignalWord, semWaitWord, Prog.lift, Prog.bind_op, Prog.bind_ret, Prog.pure_eq_ret, wp_deviceId]
  iintro ⟨#HR, HO, HG6, HB6, HT6, HG7, HB7, HT7, Hak1, Hap1⟩ Hk
  iapply (ag_go m K (devNx6 c) (nx_ne c 5) (l₀ := agFrom c 5) (l := agFrom c 6) rfl (rowSelf c) (sem7_eq _ _ _ (semNx6 c)) (sem8_eq _ _ _ (semSelf c))) $$ [HO HG6 HB6 HT6]
  · isplitr; · iexact HR
    isplitl [HO]; · iexact HO
    isplitl [HG6]; · iexact HG6
    isplitl [HB6]; · iexact HB6
    iexact HT6
  iintro ⟨HO, HC6⟩
  iapply (ag_go m K (devNx7 c) (nx_ne c 6) (l₀ := agFrom c 6) (l := agFrom c 7) rfl (rowSelf c) (sem7_eq _ _ _ (semNx7 c)) (sem8_eq _ _ _ (semSelf c))) $$ [HO HG7 HB7 HT7]
  · isplitr; · iexact HR
    isplitl [HO]; · iexact HO
    isplitl [HG7]; · iexact HG7
    isplitl [HB7]; · iexact HB7
    iexact HT7
  iintro ⟨HO, HC7⟩
  iapply (wait_go m K 3 (nx_ne c 0) (l := agFrom c 7) (mayWait_nil c _) (sem8_eq _ _ _ (semNx1 c)) (credit_a _ _ _) (X := aPts m c (nx c 1)) rfl) $$ [HO Hak1 Hap1]
  · isplitr; · iexact HR
    isplitl [HO]; · iexact HO
    isplitl [Hak1]; · iexact Hak1
    iexact Hap1
  iintro ⟨HO, Haf1, Hv1⟩
  iapply Hk
  isplitl [HC6]; · iexact HC6
  isplitl [HC7]; · iexact HC7
  isplitl [HO]; · iexact HO
  isplitl [Haf1]; · iexact Haf1
  iexact Hv1

end Cert.Gather

end
-- ==== Proof.Gather.PartsC.lean ====
/- The kernel's last parts: the sums arrive and are stored, and the copies are over. -/
module

public import proofs.«01_k».proof.Proof.Gather.Bundles

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 34 → ℕ)

/-- Part 13: four more sums. -/
theorem part13_run (c : Dev nD) {α : Type} {Q : α → sProp 𝕄} {k : PUnit → Prog (TpuEff nD τ sig (Elt F) Λ₀ .tc) α} :
    iprop(recs m K ∗ debt c (agFrom c 7) ∗ crd c 3 (nx c 2) ∗ pos c 3 (nx c 2) ∗ crd c 3 (nx c 3) ∗ pos c 3 (nx c 3) ∗ crd c 3 (nx c 4) ∗ pos c 3 (nx c 4) ∗ crd c 3 (nx c 5) ∗ pos c 3 (nx c 5))
      ⊢ iprop(((fin c 3 (nx c 2) ∗ aPts m c (nx c 2) ∗ fin c 3 (nx c 3) ∗ aPts m c (nx c 3) ∗ fin c 3 (nx c 4) ∗ aPts m c (nx c 4) ∗ debt c (agFrom c 7) ∗ fin c 3 (nx c 5) ∗ aPts m c (nx c 5)) -∗ WP c (k ⟨⟩) Q)
        -∗ WP c (P13 c (place c) >>= k) Q) := by
  simp only [P13, k0_part13_eq_skeleton]
  unfold k0_part13_skel
  simp only [semSignalWord, semWaitWord, Prog.lift, Prog.bind_op, Prog.bind_ret, Prog.pure_eq_ret, wp_deviceId]
  iintro ⟨#HR, HO, Hak2, Hap2, Hak3, Hap3, Hak4, Hap4, Hak5, Hap5⟩ Hk
  iapply (wait_go m K 3 (nx_ne c 1) (l := agFrom c 7) (mayWait_nil c _) (sem8_eq _ _ _ (semNx2 c)) (credit_a _ _ _) (X := aPts m c (nx c 2)) rfl) $$ [HO Hak2 Hap2]
  · isplitr; · iexact HR
    isplitl [HO]; · iexact HO
    isplitl [Hak2]; · iexact Hak2
    iexact Hap2
  iintro ⟨HO, Haf2, Hv2⟩
  iapply (wait_go m K 3 (nx_ne c 2) (l := agFrom c 7) (mayWait_nil c _) (sem8_eq _ _ _ (semNx3 c)) (credit_a _ _ _) (X := aPts m c (nx c 3)) rfl) $$ [HO Hak3 Hap3]
  · isplitr; · iexact HR
    isplitl [HO]; · iexact HO
    isplitl [Hak3]; · iexact Hak3
    iexact Hap3
  iintro ⟨HO, Haf3, Hv3⟩
  iapply (wait_go m K 3 (nx_ne c 3) (l := agFrom c 7) (mayWait_nil c _) (sem8_eq _ _ _ (semNx4 c)) (credit_a _ _ _) (X := aPts m c (nx c 4)) rfl) $$ [HO Hak4 Hap4]
  · isplitr; · iexact HR
    isplitl [HO]; · iexact HO
    isplitl [Hak4]; · iexact Hak4
    iexact Hap4
  iintro ⟨HO, Haf4, Hv4⟩
  iapply (wait_go m K 3 (nx_ne c 4) (l := agFrom c 7) (mayWait_nil c _) (sem8_eq _ _ _ (semNx5 c)) (credit_a _ _ _) (X := aPts m c (nx c 5)) rfl) $$ [HO Hak5 Hap5]
  · isplitr; · iexact HR
    isplitl [HO]; · iexact HO
    isplitl [Hak5]; · iexact Hak5
    iexact Hap5
  iintro ⟨HO, Haf5, Hv5⟩
  iapply Hk
  isplitl [Haf2]; · iexact Haf2
  isplitl [Hv2]; · iexact Hv2
  isplitl [Haf3]; · iexact Haf3
  isplitl [Hv3]; · iexact Hv3
  isplitl [Haf4]; · iexact Haf4
  isplitl [Hv4]; · iexact Hv4
  isplitl [HO]; · iexact HO
  isplitl [Haf5]; · iexact Haf5
  iexact Hv5

/-- Part 14: the last two sums, and the first four blocks of the result. -/
theorem part14_run (c : Dev nD) {α : Type} {Q : α → sProp 𝕄} {k : (FVec F S64x256 .bf16) → Prog (TpuEff nD τ sig (Elt F) Λ₀ .tc) α} :
    iprop(recs m K ∗ debt c (agFrom c 7) ∗ crd c 3 (nx c 6) ∗ pos c 3 (nx c 6) ∗ crd c 3 (nx c 7) ∗ pos c 3 (nx c 7) ∗ aPts m c c ∗ aPts m c (nx c 1) ∗ aPts m c (nx c 2) ∗ aPts m c (nx c 3) ∗ aPts m c (nx c 4) ∗ aPts m c (nx c 5) ∗ outTo m c 0)
      ⊢ iprop(((fin c 3 (nx c 6) ∗ debt c (agFrom c 7) ∗ fin c 3 (nx c 7) ∗ aPts m c 5 ∗ aPts m c 6 ∗ aPts m c 7 ∗ aPts m c 0 ∗ aPts m c 1 ∗ aPts m c 2 ∗ aPts m c 3 ∗ aPts m c 4 ∗ outTo m c 4) -∗ WP c (k (k0_pay16 (row1 (sumV m 4)))) Q)
        -∗ WP c (P14 c (place c) >>= k) Q) := by
  simp only [P14, k0_part14_eq_skeleton]
  unfold k0_part14_skel
  simp only [semSignalWord, semWaitWord, Prog.lift, Prog.bind_op, Prog.bind_ret, Prog.pure_eq_ret, wp_deviceId]
  iintro ⟨#HR, HO, Hak6, Hap6, Hak7, Hap7, Hvc, Hv1, Hv2, Hv3, Hv4, Hv5, HU⟩ Hk
  iapply (wait_go m K 3 (nx_ne c 5) (l := agFrom c 7) (mayWait_nil c _) (sem8_eq _ _ _ (semNx6 c)) (credit_a _ _ _) (X := aPts m c (nx c 6)) rfl) $$ [HO Hak6 Hap6]
  · isplitr; · iexact HR
    isplitl [HO]; · iexact HO
    isplitl [Hak6]; · iexact Hak6
    iexact Hap6
  iintro ⟨HO, Haf6, Hv6⟩
  iapply (wait_go m K 3 (nx_ne c 6) (l := agFrom c 7) (mayWait_nil c _) (sem8_eq _ _ _ (semNx7 c)) (credit_a _ _ _) (X := aPts m c (nx c 7)) rfl) $$ [HO Hak7 Hap7]
  · isplitr; · iexact HR
    isplitl [HO]; · iexact HO
    isplitl [Hak7]; · iexact Hak7
    iexact Hap7
  iintro ⟨HO, Haf7, Hv7⟩
  ihave HW : bigSep Finset.univ (fun s => aPts m c s) $$ [Hvc Hv1 Hv2 Hv3 Hv4 Hv5 Hv6 Hv7]
  · rw [own_ring c]
    isplitl [Hvc]; · iexact Hvc
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    iexact Hv7
  icases (a_all m c) $$ HW with ⟨HA0, HA1, HA2, HA3, HA4, HA5, HA6, HA7⟩
  iapply (a_load m (s := (0 : Dev nD)) rfl) $$ [HA0]
  · iexact HA0
  iintro HA0
  iapply (out_load m (s := 0)) $$ [HU]
  · iexact HU
  iintro %v HU
  iapply (out_store m (0 : Dev nD) rfl (row1_back _)) $$ [HU]
  · iexact HU
  iintro HU
  iapply (a_load m (s := (1 : Dev nD)) rfl) $$ [HA1]
  · iexact HA1
  iintro HA1
  iapply (out_load m (s := 1)) $$ [HU]
  · iexact HU
  iintro %v HU
  iapply (out_store m (1 : Dev nD) rfl (row1_back _)) $$ [HU]
  · iexact HU
  iintro HU
  iapply (a_load m (s := (2 : Dev nD)) rfl) $$ [HA2]
  · iexact HA2
  iintro HA2
  iapply (out_load m (s := 2)) $$ [HU]
  · iexact HU
  iintro %v HU
  iapply (out_store m (2 : Dev nD) rfl (row1_back _)) $$ [HU]
  · iexact HU
  iintro HU
  iapply (a_load m (s := (3 : Dev nD)) rfl) $$ [HA3]
  · iexact HA3
  iintro HA3
  iapply (out_load m (s := 3)) $$ [HU]
  · iexact HU
  iintro %v HU
  iapply (out_store m (3 : Dev nD) rfl (row1_back _)) $$ [HU]
  · iexact HU
  iintro HU
  iapply (a_load m (s := (4 : Dev nD)) rfl) $$ [HA4]
  · iexact HA4
  iintro HA4
  iapply (out_load m (s := 4)) $$ [HU]
  · iexact HU
  iintro %v HU
  iapply Hk
  isplitl [Haf6]; · iexact Haf6
  isplitl [HO]; · iexact HO
  isplitl [Haf7]; · iexact Haf7
  isplitl [HA5]; · iexact HA5
  isplitl [HA6]; · iexact HA6
  isplitl [HA7]; · iexact HA7
  isplitl [HA0]; · iexact HA0
  isplitl [HA1]; · iexact HA1
  isplitl [HA2]; · iexact HA2
  isplitl [HA3]; · iexact HA3
  isplitl [HA4]; · iexact HA4
  iexact HU

/-- Part 15: the last four blocks of the result, and three copies of blocks are over. -/
theorem part15_run (c : Dev nD) {α : Type} {Q : α → sProp 𝕄} {k : PUnit → Prog (TpuEff nD τ sig (Elt F) Λ₀ .tc) α} :
    iprop(recs m K ∗ outTo m c 4 ∗ aPts m c 5 ∗ aPts m c 6 ∗ aPts m c 7 ∗ debt c (agFrom c 7) ∗ crd c 0 (evenOf (chunkOf c 0)) ∗ pos c 0 (evenOf (chunkOf c 0)) ∗ crd c 0 (oddOf (chunkOf c 0)) ∗ pos c 0 (oddOf (chunkOf c 0)) ∗ crd c 0 (evenOf (chunkOf c 1)) ∗ pos c 0 (evenOf (chunkOf c 1)))
      ⊢ iprop(((aPts m c 5 ∗ aPts m c 6 ∗ aPts m c 7 ∗ outTo m c 8 ∗ fin c 0 (evenOf (chunkOf c 0)) ∗ segPts m c (evenOf (chunkOf c 0)) ∗ fin c 0 (oddOf (chunkOf c 0)) ∗ segPts m c (oddOf (chunkOf c 0)) ∗ debt c (agFrom c 7) ∗ fin c 0 (evenOf (chunkOf c 1)) ∗ segPts m c (evenOf (chunkOf c 1))) -∗ WP c (k ⟨⟩) Q)
        -∗ WP c (P15 c (k0_pay16 (row1 (sumV m 4))) >>= k) Q) := by
  simp only [P15, k0_part15_eq_skeleton]
  unfold k0_part15_skel
  simp only [semSignalWord, semWaitWord, Prog.lift, Prog.bind_op, Prog.bind_ret, Prog.pure_eq_ret, wp_deviceId]
  iintro ⟨#HR, HU, HA5, HA6, HA7, HO, Hc0, Hcp0, Hc1, Hcp1, Hc2, Hcp2⟩ Hk
  iapply (out_store m (4 : Dev nD) rfl (row1_back _)) $$ [HU]
  · iexact HU
  iintro HU
  iapply (a_load m (s := (5 : Dev nD)) rfl) $$ [HA5]
  · iexact HA5
  iintro HA5
  iapply (out_load m (s := 5)) $$ [HU]
  · iexact HU
  iintro %v HU
  iapply (out_store m (5 : Dev nD) rfl (row1_back _)) $$ [HU]
  · iexact HU
  iintro HU
  iapply (a_load m (s := (6 : Dev nD)) rfl) $$ [HA6]
  · iexact HA6
  iintro HA6
  iapply (out_load m (s := 6)) $$ [HU]
  · iexact HU
  iintro %v HU
  iapply (out_store m (6 : Dev nD) rfl (row1_back _)) $$ [HU]
  · iexact HU
  iintro HU
  iapply (a_load m (s := (7 : Dev nD)) rfl) $$ [HA7]
  · iexact HA7
  iintro HA7
  iapply (out_load m (s := 7)) $$ [HU]
  · iexact HU
  iintro %v HU
  iapply (out_store m (7 : Dev nD) rfl (row1_back _)) $$ [HU]
  · iexact HU
  iintro HU
  iapply (wait_go m K 0 (even_ne c 0) (l := agFrom c 7) (mayWait_nil c _) (sem5_eq _ _ _ (semEven0 c)) (credit_p _ _ _) (X := segPts m c (evenOf (chunkOf c 0))) rfl) $$ [HO Hc0 Hcp0]
  · isplitr; · iexact HR
    isplitl [HO]; · iexact HO
    isplitl [Hc0]; · iexact Hc0
    iexact Hcp0
  iintro ⟨HO, Hcf0, Hg0⟩
  iapply (wait_go m K 0 (odd_ne c 0) (l := agFrom c 7) (mayWait_nil c _) (sem5_eq _ _ _ (semOdd0 c)) (credit_p _ _ _) (X := segPts m c (oddOf (chunkOf c 0))) rfl) $$ [HO Hc1 Hcp1]
  · isplitr; · iexact HR
    isplitl [HO]; · iexact HO
    isplitl [Hc1]; · iexact Hc1
    iexact Hcp1
  iintro ⟨HO, Hcf1, Hg1⟩
  iapply (wait_go m K 0 (even_ne c 1) (l := agFrom c 7) (mayWait_nil c _) (sem5_eq _ _ _ (semEven1 c)) (credit_p _ _ _) (X := segPts m c (evenOf (chunkOf c 1))) rfl) $$ [HO Hc2 Hcp2]
  · isplitr; · iexact HR
    isplitl [HO]; · iexact HO
    isplitl [Hc2]; · iexact Hc2
    iexact Hcp2
  iintro ⟨HO, Hcf2, Hg2⟩
  iapply Hk
  isplitl [HA5]; · iexact HA5
  isplitl [HA6]; · iexact HA6
  isplitl [HA7]; · iexact HA7
  isplitl [HU]; · iexact HU
  isplitl [Hcf0]; · iexact Hcf0
  isplitl [Hg0]; · iexact Hg0
  isplitl [Hcf1]; · iexact Hcf1
  isplitl [Hg1]; · iexact Hg1
  isplitl [HO]; · iexact HO
  isplitl [Hcf2]; · iexact Hcf2
  iexact Hg2

/-- Part 16: the other copies of blocks are over, and two of the sum. -/
theorem part16_run (c : Dev nD) {α : Type} {Q : α → sProp 𝕄} {k : PUnit → Prog (TpuEff nD τ sig (Elt F) Λ₀ .tc) α} :
    iprop(recs m K ∗ debt c (agFrom c 7) ∗ crd c 0 (oddOf (chunkOf c 1)) ∗ pos c 0 (oddOf (chunkOf c 1)) ∗ crd c 0 (evenOf (chunkOf c 2)) ∗ pos c 0 (evenOf (chunkOf c 2)) ∗ crd c 0 (oddOf (chunkOf c 2)) ∗ pos c 0 (oddOf (chunkOf c 2)) ∗ crd c 0 (pair c) ∗ pos c 0 (pair c) ∗ crd c 2 (nx c 1) ∗ pos c 2 (nx c 1) ∗ crd c 2 (nx c 2) ∗ pos c 2 (nx c 2))
      ⊢ iprop(((fin c 0 (oddOf (chunkOf c 1)) ∗ segPts m c (oddOf (chunkOf c 1)) ∗ fin c 0 (evenOf (chunkOf c 2)) ∗ segPts m c (evenOf (chunkOf c 2)) ∗ fin c 0 (oddOf (chunkOf c 2)) ∗ segPts m c (oddOf (chunkOf c 2)) ∗ fin c 0 (pair c) ∗ segPts m c (pair c) ∗ fin c 2 (nx c 1) ∗ gPts m c (nx c 1) ∗ debt c (agFrom c 7) ∗ fin c 2 (nx c 2) ∗ gPts m c (nx c 2)) -∗ WP c (k ⟨⟩) Q)
        -∗ WP c (P16 c >>= k) Q) := by
  simp only [P16, k0_part16_eq_skeleton]
  unfold k0_part16_skel
  simp only [semSignalWord, semWaitWord, Prog.lift, Prog.bind_op, Prog.bind_ret, Prog.pure_eq_ret, wp_deviceId]
  iintro ⟨#HR, HO, Hc3, Hcp3, Hc4, Hcp4, Hc5, Hcp5, Hc6, Hcp6, HC1, HCp1, HC2, HCp2⟩ Hk
  iapply (wait_go m K 0 (odd_ne c 1) (l := agFrom c 7) (mayWait_nil c _) (sem5_eq _ _ _ (semOdd1 c)) (credit_p _ _ _) (X := segPts m c (oddOf (chunkOf c 1))) rfl) $$ [HO Hc3 Hcp3]
  · isplitr; · iexact HR
    isplitl [HO]; · iexact HO
    isplitl [Hc3]; · iexact Hc3
    iexact Hcp3
  iintro ⟨HO, Hcf3, Hg3⟩
  iapply (wait_go m K 0 (even_ne c 2) (l := agFrom c 7) (mayWait_nil c _) (sem5_eq _ _ _ (semEven2 c)) (credit_p _ _ _) (X := segPts m c (evenOf (chunkOf c 2))) rfl) $$ [HO Hc4 Hcp4]
  · isplitr; · iexact HR
    isplitl [HO]; · iexact HO
    isplitl [Hc4]; · iexact Hc4
    iexact Hcp4
  iintro ⟨HO, Hcf4, Hg4⟩
  iapply (wait_go m K 0 (odd_ne c 2) (l := agFrom c 7) (mayWait_nil c _) (sem5_eq _ _ _ (semOdd2 c)) (credit_p _ _ _) (X := segPts m c (oddOf (chunkOf c 2))) rfl) $$ [HO Hc5 Hcp5]
  · isplitr; · iexact HR
    isplitl [HO]; · iexact HO
    isplitl [Hc5]; · iexact Hc5
    iexact Hcp5
  iintro ⟨HO, Hcf5, Hg5⟩
  iapply (wait_go m K 0 (pair_ne c) (l := agFrom c 7) (mayWait_nil c _) (sem5_eq _ _ _ (semPair c)) (credit_p _ _ _) (X := segPts m c (pair c)) rfl) $$ [HO Hc6 Hcp6]
  · isplitr; · iexact HR
    isplitl [HO]; · iexact HO
    isplitl [Hc6]; · iexact Hc6
    iexact Hcp6
  iintro ⟨HO, Hcf6, Hg6⟩
  iapply (wait_go m K 2 (nx_ne c 0) (l := agFrom c 7) (mayWait_nil c _) (sem7_eq _ _ _ (semNx1 c)) credit_g (X := gPts m c (nx c 1)) rfl) $$ [HO HC1 HCp1]
  · isplitr; · iexact HR
    isplitl [HO]; · iexact HO
    isplitl [HC1]; · iexact HC1
    iexact HCp1
  iintro ⟨HO, HCf1, HG1⟩
  iapply (wait_go m K 2 (nx_ne c 1) (l := agFrom c 7) (mayWait_nil c _) (sem7_eq _ _ _ (semNx2 c)) credit_g (X := gPts m c (nx c 2)) rfl) $$ [HO HC2 HCp2]
  · isplitr; · iexact HR
    isplitl [HO]; · iexact HO
    isplitl [HC2]; · iexact HC2
    iexact HCp2
  iintro ⟨HO, HCf2, HG2⟩
  iapply Hk
  isplitl [Hcf3]; · iexact Hcf3
  isplitl [Hg3]; · iexact Hg3
  isplitl [Hcf4]; · iexact Hcf4
  isplitl [Hg4]; · iexact Hg4
  isplitl [Hcf5]; · iexact Hcf5
  isplitl [Hg5]; · iexact Hg5
  isplitl [Hcf6]; · iexact Hcf6
  isplitl [Hg6]; · iexact Hg6
  isplitl [HCf1]; · iexact HCf1
  isplitl [HG1]; · iexact HG1
  isplitl [HO]; · iexact HO
  isplitl [HCf2]; · iexact HCf2
  iexact HG2

end Cert.Gather

end
-- ==== Proof.Gather.Body.lean ====
/- The whole body at a symbolic device: its parts in order, from the bundles it starts with to the bundles it leaves. -/
module

public import proofs.«01_k».proof.Proof.Gather.PartsA
public import proofs.«01_k».proof.Proof.Gather.PartsB
public import proofs.«01_k».proof.Proof.Gather.PartsC

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 34 → ℕ)

omit [FloatOps F] in
theorem ring_open (c : Dev nD) (Φ : Dev nD → sProp 𝕄) : bigSep (Finset.univ.erase c) Φ
    ⊢ iprop(Φ (nx c 1) ∗ Φ (nx c 2) ∗ Φ (nx c 3) ∗ Φ (nx c 4) ∗ Φ (nx c 5) ∗ Φ (nx c 6) ∗ Φ (nx c 7)) := by rw [ring_list]
omit [FloatOps F] in
theorem send_open (c : Dev nD) (Φ : Dev nD → sProp 𝕄) : bigSep (Finset.univ.erase c) Φ
    ⊢ iprop(Φ (evenOf (chunkOf c 0)) ∗ Φ (oddOf (chunkOf c 0)) ∗ Φ (evenOf (chunkOf c 1)) ∗ Φ (oddOf (chunkOf c 1))
        ∗ Φ (evenOf (chunkOf c 2)) ∗ Φ (oddOf (chunkOf c 2)) ∗ Φ (pair c)) := by rw [send_list]

set_option maxHeartbeats 2000000 in
/-- The body runs from the bundles it starts with to those it leaves. -/
theorem body_run (c : Dev nD) {Q : PUnit → sProp 𝕄} :
    iprop(recs m K ∗ debt c (barFrom c 0) ∗ argPts m c ∗ (∃ f, ((c : Thread nD τ).loc cc0_scratch0) ↦{fullShare} f) ∗ dutyTok ER (tabC c) 0 c ∗ cred (tallyAt (barC c) () 7) ∗ atPos ER (barC c) 0 ∅ 0 ∗ atPos ER (tabC c) 0 ∅ 0 ∗ xPts m c ∗ chunkAny c (chunkOf c 0) ∗ chunkAny c (chunkOf c 1) ∗ chunkAny c (chunkOf c 2) ∗ chunkAny c (chunkOf c 3) ∗ rAny c c ∗ aAny c c ∗ (∃ f, ((c : Thread nD τ).loc cc0_scratch2) ↦{fullShare} f) ∗ outTo m c 0 ∗
        bigSep (Finset.univ.erase c) (sigR c) ∗ bigSep (Finset.univ.erase c) (rsT c) ∗ bigSep (Finset.univ.erase c) (agT c) ∗ bigSep (Finset.univ.erase c) (crd c 1) ∗ bigSep (Finset.univ.erase c) (pos c 1) ∗ bigSep (Finset.univ.erase c) (crd c 3) ∗ bigSep (Finset.univ.erase c) (pos c 3) ∗ bigSep (Finset.univ.erase c) (pos c 0) ∗ bigSep (Finset.univ.erase c) (pos c 2))
      ⊢ iprop(((debt c (agFrom c 7) ∗ argPts m c ∗ tPts m c ∗ xPts m c ∗ outTo m c 8 ∗ semVal (barC c) 0 ∗ semVal (tabC c) 0 ∗
          bigSep Finset.univ (segPts m c) ∗ bigSep Finset.univ (rPts m c) ∗ bigSep Finset.univ (aPts m c) ∗ bigSep (Finset.univ.erase c) (gPts m c) ∗ bigSep (Finset.univ.erase c) (fin c 0) ∗ bigSep (Finset.univ.erase c) (fin c 1) ∗ bigSep (Finset.univ.erase c) (fin c 2) ∗ bigSep (Finset.univ.erase c) (fin c 3)) -∗ Q ⟨⟩)
        -∗ WP c (cc0_body hM (Memref.isWhole_whole _) xM (Memref.isWhole_whole _) oM (Memref.isWhole_whole _) tM (Memref.isWhole_whole _) pM (Memref.isWhole_whole _) gM (Memref.isWhole_whole _) rM (Memref.isWhole_whole _) aM (Memref.isWhole_whole _) cc0_scratch5 cc0_scratch6 cc0_scratch7 cc0_scratch8 cc0_scratch9) Q) := by
  simp only [cc0_body_eq_skeleton]
  unfold cc0_body_skel
  simp only [Prog.lift, Prog.bind_op, Prog.bind_ret, Prog.pure_eq_ret]
  iintro ⟨#HR, HO, HA, HT, Hd, Hbc, Hbp, Htp, HX, Hk0, Hk1, Hk2, Hk3, Hrc, Hac, HG, HU, B1, B2, B3, B4, B5, B6, B7, B8, B9⟩ Hk
  icases (ring_open c (sigR c)) $$ B1 with ⟨Hs1, Hs2, Hs3, Hs4, Hs5, Hs6, Hs7⟩
  icases (send_open c (rsT c)) $$ B2 with ⟨Ht0, Ht1, Ht2, Ht3, Ht4, Ht5, Ht6⟩
  icases (ring_open c (agT c)) $$ B3 with ⟨HT1, HT2, HT3, HT4, HT5, HT6, HT7⟩
  icases (ring_open c (crd c 1)) $$ B4 with ⟨Hrk1, Hrk2, Hrk3, Hrk4, Hrk5, Hrk6, Hrk7⟩
  icases (ring_open c (pos c 1)) $$ B5 with ⟨Hrp1, Hrp2, Hrp3, Hrp4, Hrp5, Hrp6, Hrp7⟩
  icases (ring_open c (crd c 3)) $$ B6 with ⟨Hak1, Hak2, Hak3, Hak4, Hak5, Hak6, Hak7⟩
  icases (ring_open c (pos c 3)) $$ B7 with ⟨Hap1, Hap2, Hap3, Hap4, Hap5, Hap6, Hap7⟩
  icases (send_open c (pos c 0)) $$ B8 with ⟨Hcp0, Hcp1, Hcp2, Hcp3, Hcp4, Hcp5, Hcp6⟩
  icases (ring_open c (pos c 2)) $$ B9 with ⟨HCp1, HCp2, HCp3, HCp4, HCp5, HCp6, HCp7⟩
  iapply (part1_run m K c) $$ [HA HT Hd HO Hs1 Hs2 Hs3 Hs4 Hs5]
  · isplitr; · iexact HR
    isplitl [HA]; · iexact HA
    isplitl [HT]; · iexact HT
    isplitl [Hd]; · iexact Hd
    isplitl [HO]; · iexact HO
    isplitl [Hs1]; · iexact Hs1
    isplitl [Hs2]; · iexact Hs2
    isplitl [Hs3]; · iexact Hs3
    isplitl [Hs4]; · iexact Hs4
    iexact Hs5
  iintro %v1_0 ⟨Htc, HO⟩
  dsimp only
  iapply (part2_run m K c _) $$ [HO Hs6 Hs7 Htc Htp HX Hk0]
  · isplitr; · iexact HR
    isplitl [HO]; · iexact HO
    isplitl [Hs6]; · iexact Hs6
    isplitl [Hs7]; · iexact Hs7
    isplitl [Htc]; · iexact Htc
    isplitl [Htp]; · iexact Htp
    isplitl [HX]; · iexact HX
    iexact Hk0
  iintro %v2_0 %v2_1 ⟨HO, Hts, HA, HT, HX, Hg0, Hg1⟩
  dsimp only
  iapply (part3_run m K c _ _) $$ [HO Hbc Hbp Hg0 Ht0 Hg1 Ht1 HX]
  · isplitr; · iexact HR
    isplitl [HO]; · iexact HO
    isplitl [Hbc]; · iexact Hbc
    isplitl [Hbp]; · iexact Hbp
    isplitl [Hg0]; · iexact Hg0
    isplitl [Ht0]; · iexact Ht0
    isplitl [Hg1]; · iexact Hg1
    isplitl [Ht1]; · iexact Ht1
    iexact HX
  iintro %v3_0 ⟨Hbs, Hr2, Hr3, Hr4, Hr5, Hr6, HB, Hc0, HO, Hc1, HX⟩
  dsimp only
  iapply (part4_run m K c _ _) $$ [Hk1 HO Hr2 Ht2 Hr3 Ht3]
  · isplitr; · iexact HR
    isplitl [Hk1]; · iexact Hk1
    isplitl [HO]; · iexact HO
    isplitl [Hr2]; · iexact Hr2
    isplitl [Ht2]; · iexact Ht2
    isplitl [Hr3]; · iexact Hr3
    iexact Ht3
  iintro %v4_0 %v4_1 ⟨Hc2, HO, Hc3⟩
  dsimp only
  iapply (part5_run m K c _ _) $$ [HX Hk2 HO Hr4 Ht4]
  · isplitr; · iexact HR
    isplitl [HX]; · iexact HX
    isplitl [Hk2]; · iexact Hk2
    isplitl [HO]; · iexact HO
    isplitl [Hr4]; · iexact Hr4
    iexact Ht4
  iintro ⟨HX, Hg5, HO, Hc4⟩
  iapply (part6_run m K c _) $$ [HO Hg5 Hr5 Ht5 HX Hk3 Hrc]
  · isplitr; · iexact HR
    isplitl [HO]; · iexact HO
    isplitl [Hg5]; · iexact Hg5
    isplitl [Hr5]; · iexact Hr5
    isplitl [Ht5]; · iexact Ht5
    isplitl [HX]; · iexact HX
    isplitl [Hk3]; · iexact Hk3
    iexact Hrc
  iintro ⟨HO, Hc5, HX, Hg6, Hgc, Hwc⟩
  iapply (part7_run m K c) $$ [HO Hg6 Hr6 Ht6 Hrk1 Hrp1 Hrk2 Hrp2]
  · isplitr; · iexact HR
    isplitl [HO]; · iexact HO
    isplitl [Hg6]; · iexact Hg6
    isplitl [Hr6]; · iexact Hr6
    isplitl [Ht6]; · iexact Ht6
    isplitl [Hrk1]; · iexact Hrk1
    isplitl [Hrp1]; · iexact Hrp1
    isplitl [Hrk2]; · iexact Hrk2
    iexact Hrp2
  iintro ⟨Hc6, Hrf1, Hw1, HO, Hrf2, Hw2⟩
  iapply (part8_run m K c) $$ [HO Hrk3 Hrp3 Hrk4 Hrp4 Hrk5 Hrp5]
  · isplitr; · iexact HR
    isplitl [HO]; · iexact HO
    isplitl [Hrk3]; · iexact Hrk3
    isplitl [Hrp3]; · iexact Hrp3
    isplitl [Hrk4]; · iexact Hrk4
    isplitl [Hrp4]; · iexact Hrp4
    isplitl [Hrk5]; · iexact Hrk5
    iexact Hrp5
  iintro ⟨Hrf3, Hw3, Hrf4, Hw4, HO, Hrf5, Hw5⟩
  iapply (part9_run m K c) $$ [HO Hrk6 Hrp6 Hrk7 Hrp7 Hwc Hw1 Hw2 Hw3 Hw4 Hw5]
  · isplitr; · iexact HR
    isplitl [HO]; · iexact HO
    isplitl [Hrk6]; · iexact Hrk6
    isplitl [Hrp6]; · iexact Hrp6
    isplitl [Hrk7]; · iexact Hrk7
    isplitl [Hrp7]; · iexact Hrp7
    isplitl [Hwc]; · iexact Hwc
    isplitl [Hw1]; · iexact Hw1
    isplitl [Hw2]; · iexact Hw2
    isplitl [Hw3]; · iexact Hw3
    isplitl [Hw4]; · iexact Hw4
    iexact Hw5
  iintro ⟨Hrf6, HO, Hrf7, HR5, HR6, HR7, HR0, HR1, HR2, HR3, HR4⟩
  iapply (part10_run m K c) $$ [HR5 HR6 HR7 HG Hac HB HO HT1]
  · isplitr; · iexact HR
    isplitl [HR5]; · iexact HR5
    isplitl [HR6]; · iexact HR6
    isplitl [HR7]; · iexact HR7
    isplitl [HG]; · iexact HG
    isplitl [Hac]; · iexact Hac
    isplitl [HB]; · iexact HB
    isplitl [HO]; · iexact HO
    iexact HT1
  iintro ⟨HR5, HR6, HR7, Hvc, HG2, HG3, HG4, HG5, HG6, HG7, HB2, HB3, HB4, HB5, HB6, HB7, HO, HC1⟩
  iapply (part11_run m K c) $$ [HO HG2 HB2 HT2 HG3 HB3 HT3 HG4 HB4 HT4 HG5 HB5 HT5]
  · isplitr; · iexact HR
    isplitl [HO]; · iexact HO
    isplitl [HG2]; · iexact HG2
    isplitl [HB2]; · iexact HB2
    isplitl [HT2]; · iexact HT2
    isplitl [HG3]; · iexact HG3
    isplitl [HB3]; · iexact HB3
    isplitl [HT3]; · iexact HT3
    isplitl [HG4]; · iexact HG4
    isplitl [HB4]; · iexact HB4
    isplitl [HT4]; · iexact HT4
    isplitl [HG5]; · iexact HG5
    isplitl [HB5]; · iexact HB5
    iexact HT5
  iintro %v11_0 %v11_1 ⟨HC2, HC3, HC4, HO, HC5⟩
  dsimp only
  iapply (part12_run m K c _ _) $$ [HO HG6 HB6 HT6 HG7 HB7 HT7 Hak1 Hap1]
  · isplitr; · iexact HR
    isplitl [HO]; · iexact HO
    isplitl [HG6]; · iexact HG6
    isplitl [HB6]; · iexact HB6
    isplitl [HT6]; · iexact HT6
    isplitl [HG7]; · iexact HG7
    isplitl [HB7]; · iexact HB7
    isplitl [HT7]; · iexact HT7
    isplitl [Hak1]; · iexact Hak1
    iexact Hap1
  iintro ⟨HC6, HC7, HO, Haf1, Hv1⟩
  iapply (part13_run m K c) $$ [HO Hak2 Hap2 Hak3 Hap3 Hak4 Hap4 Hak5 Hap5]
  · isplitr; · iexact HR
    isplitl [HO]; · iexact HO
    isplitl [Hak2]; · iexact Hak2
    isplitl [Hap2]; · iexact Hap2
    isplitl [Hak3]; · iexact Hak3
    isplitl [Hap3]; · iexact Hap3
    isplitl [Hak4]; · iexact Hak4
    isplitl [Hap4]; · iexact Hap4
    isplitl [Hak5]; · iexact Hak5
    iexact Hap5
  iintro ⟨Haf2, Hv2, Haf3, Hv3, Haf4, Hv4, HO, Haf5, Hv5⟩
  iapply (part14_run m K c) $$ [HO Hak6 Hap6 Hak7 Hap7 Hvc Hv1 Hv2 Hv3 Hv4 Hv5 HU]
  · isplitr; · iexact HR
    isplitl [HO]; · iexact HO
    isplitl [Hak6]; · iexact Hak6
    isplitl [Hap6]; · iexact Hap6
    isplitl [Hak7]; · iexact Hak7
    isplitl [Hap7]; · iexact Hap7
    isplitl [Hvc]; · iexact Hvc
    isplitl [Hv1]; · iexact Hv1
    isplitl [Hv2]; · iexact Hv2
    isplitl [Hv3]; · iexact Hv3
    isplitl [Hv4]; · iexact Hv4
    isplitl [Hv5]; · iexact Hv5
    iexact HU
  iintro ⟨Haf6, HO, Haf7, HA5, HA6, HA7, HA0, HA1, HA2, HA3, HA4, HU⟩
  iapply (part15_run m K c) $$ [HU HA5 HA6 HA7 HO Hc0 Hcp0 Hc1 Hcp1 Hc2 Hcp2]
  · isplitr; · iexact HR
    isplitl [HU]; · iexact HU
    isplitl [HA5]; · iexact HA5
    isplitl [HA6]; · iexact HA6
    isplitl [HA7]; · iexact HA7
    isplitl [HO]; · iexact HO
    isplitl [Hc0]; · iexact Hc0
    isplitl [Hcp0]; · iexact Hcp0
    isplitl [Hc1]; · iexact Hc1
    isplitl [Hcp1]; · iexact Hcp1
    isplitl [Hc2]; · iexact Hc2
    iexact Hcp2
  iintro ⟨HA5, HA6, HA7, HU, Hcf0, Hg0, Hcf1, Hg1, HO, Hcf2, Hg2⟩
  iapply (part16_run m K c) $$ [HO Hc3 Hcp3 Hc4 Hcp4 Hc5 Hcp5 Hc6 Hcp6 HC1 HCp1 HC2 HCp2]
  · isplitr; · iexact HR
    isplitl [HO]; · iexact HO
    isplitl [Hc3]; · iexact Hc3
    isplitl [Hcp3]; · iexact Hcp3
    isplitl [Hc4]; · iexact Hc4
    isplitl [Hcp4]; · iexact Hcp4
    isplitl [Hc5]; · iexact Hc5
    isplitl [Hcp5]; · iexact Hcp5
    isplitl [Hc6]; · iexact Hc6
    isplitl [Hcp6]; · iexact Hcp6
    isplitl [HC1]; · iexact HC1
    isplitl [HCp1]; · iexact HCp1
    isplitl [HC2]; · iexact HC2
    iexact HCp2
  iintro ⟨Hcf3, Hg3, Hcf4, Hg4, Hcf5, Hg5, Hcf6, Hg6, HCf1, HG1, HO, HCf2, HG2⟩
  iapply (wait_go m K 2 (nx_ne c 2) (l := agFrom c 7) (mayWait_nil c _) (sem7_eq _ _ _ (semNx3 c)) credit_g (X := gPts m c (nx c 3)) rfl) $$ [HO HC3 HCp3]
  · isplitr; · iexact HR
    isplitl [HO]; · iexact HO
    isplitl [HC3]; · iexact HC3
    iexact HCp3
  iintro ⟨HO, HCf3, HG3⟩
  iapply (wait_go m K 2 (nx_ne c 3) (l := agFrom c 7) (mayWait_nil c _) (sem7_eq _ _ _ (semNx4 c)) credit_g (X := gPts m c (nx c 4)) rfl) $$ [HO HC4 HCp4]
  · isplitr; · iexact HR
    isplitl [HO]; · iexact HO
    isplitl [HC4]; · iexact HC4
    iexact HCp4
  iintro ⟨HO, HCf4, HG4⟩
  iapply (wait_go m K 2 (nx_ne c 4) (l := agFrom c 7) (mayWait_nil c _) (sem7_eq _ _ _ (semNx5 c)) credit_g (X := gPts m c (nx c 5)) rfl) $$ [HO HC5 HCp5]
  · isplitr; · iexact HR
    isplitl [HO]; · iexact HO
    isplitl [HC5]; · iexact HC5
    iexact HCp5
  iintro ⟨HO, HCf5, HG5⟩
  iapply (wait_go m K 2 (nx_ne c 5) (l := agFrom c 7) (mayWait_nil c _) (sem7_eq _ _ _ (semNx6 c)) credit_g (X := gPts m c (nx c 6)) rfl) $$ [HO HC6 HCp6]
  · isplitr; · iexact HR
    isplitl [HO]; · iexact HO
    isplitl [HC6]; · iexact HC6
    iexact HCp6
  iintro ⟨HO, HCf6, HG6⟩
  iapply (wait_go m K 2 (nx_ne c 6) (l := agFrom c 7) (mayWait_nil c _) (sem7_eq _ _ _ (semNx7 c)) credit_g (X := gPts m c (nx c 7)) rfl) $$ [HO HC7 HCp7]
  · isplitr; · iexact HR
    isplitl [HO]; · iexact HO
    isplitl [HC7]; · iexact HC7
    iexact HCp7
  iintro ⟨HO, HCf7, HG7⟩
  simp only [wp_ret]; imodintro
  iapply Hk
  isplitl [HO]; · iexact HO
  isplitl [HA]; · iexact HA
  isplitl [HT]; · iexact HT
  isplitl [HX]; · iexact HX
  isplitl [HU]; · iexact HU
  isplitl [Hbs]; · iexact Hbs
  isplitl [Hts]; · iexact Hts
  isplitl [Hgc Hg0 Hg1 Hg2 Hg3 Hg4 Hg5 Hg6]
  · rw [own_send c (segPts m c)]
    isplitl [Hgc]; · iexact Hgc
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    iexact Hg6
  isplitl [HR0 HR1 HR2 HR3 HR4 HR5 HR6 HR7]
  · rw [all_list (rPts m c)]
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexact HR7
  isplitl [HA0 HA1 HA2 HA3 HA4 HA5 HA6 HA7]
  · rw [all_list (aPts m c)]
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    iexact HA7
  isplitl [HG1 HG2 HG3 HG4 HG5 HG6 HG7]
  · rw [ring_list c (gPts m c)]
    isplitl [HG1]; · iexact HG1
    isplitl [HG2]; · iexact HG2
    isplitl [HG3]; · iexact HG3
    isplitl [HG4]; · iexact HG4
    isplitl [HG5]; · iexact HG5
    isplitl [HG6]; · iexact HG6
    iexact HG7
  isplitl [Hcf0 Hcf1 Hcf2 Hcf3 Hcf4 Hcf5 Hcf6]
  · rw [send_list c (fin c 0)]
    isplitl [Hcf0]; · iexact Hcf0
    isplitl [Hcf1]; · iexact Hcf1
    isplitl [Hcf2]; · iexact Hcf2
    isplitl [Hcf3]; · iexact Hcf3
    isplitl [Hcf4]; · iexact Hcf4
    isplitl [Hcf5]; · iexact Hcf5
    iexact Hcf6
  isplitl [Hrf1 Hrf2 Hrf3 Hrf4 Hrf5 Hrf6 Hrf7]
  · rw [ring_list c (fin c 1)]
    isplitl [Hrf1]; · iexact Hrf1
    isplitl [Hrf2]; · iexact Hrf2
    isplitl [Hrf3]; · iexact Hrf3
    isplitl [Hrf4]; · iexact Hrf4
    isplitl [Hrf5]; · iexact Hrf5
    isplitl [Hrf6]; · iexact Hrf6
    iexact Hrf7
  isplitl [HCf1 HCf2 HCf3 HCf4 HCf5 HCf6 HCf7]
  · rw [ring_list c (fin c 2)]
    isplitl [HCf1]; · iexact HCf1
    isplitl [HCf2]; · iexact HCf2
    isplitl [HCf3]; · iexact HCf3
    isplitl [HCf4]; · iexact HCf4
    isplitl [HCf5]; · iexact HCf5
    isplitl [HCf6]; · iexact HCf6
    iexact HCf7
  rw [ring_list c (fin c 3)]
  isplitl [Haf1]; · iexact Haf1
  isplitl [Haf2]; · iexact Haf2
  isplitl [Haf3]; · iexact Haf3
  isplitl [Haf4]; · iexact Haf4
  isplitl [Haf5]; · iexact Haf5
  isplitl [Haf6]; · iexact Haf6
  iexact Haf7

end Cert.Gather

end
-- ==== Proof.Gather.Obligation.lean ====
/- The kernel's body as the pipeline runs it: what the launch deals a device is opened into the bundles of the body, and
   what the body leaves is put together again. -/
module

public import proofs.«01_k».proof.Proof.Gather.Body

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Whole buffers and their blocks -/

omit [FloatOps F] in
/-- A whole buffer with any contents, block by block. -/
theorem any_open {ℓ : Loc nD τ sig} {T : Type} [Fintype T] (S : T → Finset (Idx ℓ)) (hc : Finset.univ.biUnion S = Finset.univ)
    (hd : ∀ t t', t ≠ t' → Disjoint (S t) (S t')) :
    (iprop(∃ f, ℓ ↦{fullShare} f) : sProp 𝕄) ⊢ bigSep Finset.univ fun t => iprop(∃ f, ℓ ↦[S t]{fullShare} f) := by
  iintro ⟨%f, H⟩
  have e : (ℓ ↦{fullShare} f : sProp 𝕄) ⊢ bigSep Finset.univ fun t => iprop(∃ f, ℓ ↦[S t]{fullShare} f) := by
    rw [← hc]
    refine (Entails.of_eq (pointsTo_biUnion Finset.univ S fun t _ t' _ h => hd t t' h)).trans (bigSep_mono fun t _ => ?_)
    exact (show (ℓ ↦[S t]{fullShare} f : sProp 𝕄) ⊢ iprop(∃ f, ℓ ↦[S t]{fullShare} f) from by iintro H; iexists f; iexact H)
  iapply e; iexact H
omit [FloatOps F] in
/-- The blocks with any contents are a whole buffer with some contents. -/
theorem any_close {ℓ : Loc nD τ sig} {T : Type} [Fintype T] [DecidableEq T] (S : T → Finset (Idx ℓ)) (hc : Finset.univ.biUnion S = Finset.univ)
    (hd : ∀ t t', t ≠ t' → Disjoint (S t) (S t')) (f₀ : Buf (Elt F) ℓ) :
    (bigSep Finset.univ fun t => iprop(∃ f, ℓ ↦[S t]{fullShare} f) : sProp 𝕄) ⊢ iprop(∃ f, ℓ ↦{fullShare} f) := by
  haveI : Nonempty (Buf (Elt F) ℓ) := ⟨f₀⟩
  iintro H
  icases (BI.bigSep_exists_pi Finset.univ fun (t : T) (f : Buf (Elt F) ℓ) => (ℓ ↦[S t]{fullShare} f : sProp 𝕄)) $$ H with ⟨%fs, H⟩
  icases (pointsTo_biUnion_join Finset.univ S fs f₀ fun t _ t' _ h => hd t t' h) $$ H with ⟨%g, -, H⟩
  iexists g
  rw [← hc]; iexact H
omit [FloatOps F] in
/-- The blocks of one contents are the whole buffer. -/
theorem same_close {ℓ : Loc nD τ sig} {T : Type} [Fintype T] (S : T → Finset (Idx ℓ)) (hc : Finset.univ.biUnion S = Finset.univ)
    (hd : ∀ t t', t ≠ t' → Disjoint (S t) (S t')) (f : Buf (Elt F) ℓ) :
    (bigSep Finset.univ fun t => (ℓ ↦[S t]{fullShare} f : sProp 𝕄)) ⊢ iprop(∃ f, ℓ ↦{fullShare} f) := by
  iintro H
  iexists f
  rw [← hc, pointsTo_biUnion Finset.univ S fun t _ t' _ h => hd t t' h]
  iexact H

omit [FloatOps F] in
/-- The partial result's buffer, pair by pair in the order in which the pairs are computed. -/
theorem chunks_open (c : Dev nD) : iprop(∃ f, ((c : Thread nD τ).loc cc0_scratch1) ↦{fullShare} f)
    ⊢ (iprop(chunkAny c (chunkOf c 0) ∗ chunkAny c (chunkOf c 1) ∗ chunkAny c (chunkOf c 2) ∗ chunkAny c (chunkOf c 3)) : sProp 𝕄) := by
  refine (any_open (ℓ := (c : Thread nD τ).loc cc0_scratch1) (fun q : Fin 4 => chunkSet q) chunk_cover fun q q' h => chunk_disjoint h).trans ?_
  rw [bigSep_eq_bigSepL_of_eq [chunkOf c 0, chunkOf c 1, chunkOf c 2, chunkOf c 3] (chunkOf_set c).symm (chunkOf_nodup c)]
  exact Entails.of_eq rfl
omit [FloatOps F] in
theorem rRows_open (c : Dev nD) : iprop(∃ f, ((c : Thread nD τ).loc cc0_scratch3) ↦{fullShare} f) ⊢ (bigSep Finset.univ fun s => rAny c s : sProp 𝕄) :=
  any_open (ℓ := (c : Thread nD τ).loc cc0_scratch3) (fun s : Dev nD => rSet s) rRow_cover fun s s' h => rRow_disjoint h
omit [FloatOps F] in
theorem aRows_open (c : Dev nD) : iprop(∃ f, ((c : Thread nD τ).loc cc0_scratch4) ↦{fullShare} f) ⊢ (bigSep Finset.univ fun s => aAny c s : sProp 𝕄) :=
  any_open (ℓ := (c : Thread nD τ).loc cc0_scratch4) (fun s : Dev nD => aSet s) aRow_cover fun s s' h => aRow_disjoint h

/-- Any element: what a buffer may hold. -/
def someE (c : Dev nD) : Elt F .bf16 := sumV m c fun a => ⟨0, by fin_cases a <;> decide⟩
include m in
theorem rRows_close (c : Dev nD) : (bigSep Finset.univ fun s => rAny c s : sProp 𝕄) ⊢ iprop(∃ f, ((c : Thread nD τ).loc cc0_scratch3) ↦{fullShare} f) :=
  any_close (ℓ := (c : Thread nD τ).loc cc0_scratch3) (fun s : Dev nD => rSet s) rRow_cover (fun s s' h => rRow_disjoint h) (fun _ => someE m c)
include m in
theorem aRows_close (c : Dev nD) : (bigSep Finset.univ fun s => aAny c s : sProp 𝕄) ⊢ iprop(∃ f, ((c : Thread nD τ).loc cc0_scratch4) ↦{fullShare} f) :=
  any_close (ℓ := (c : Thread nD τ).loc cc0_scratch4) (fun s : Dev nD => aSet s) aRow_cover (fun s s' h => aRow_disjoint h) (fun _ => someE m c)
theorem segs_close (c : Dev nD) : bigSep Finset.univ (segPts m c) ⊢ iprop(∃ f, ((c : Thread nD τ).loc cc0_scratch1) ↦{fullShare} f) :=
  same_close (ℓ := (c : Thread nD τ).loc cc0_scratch1) (fun p : Dev nD => segSet p) seg_cover (fun p p' h => seg_disjoint h) (partV m c)
theorem rPts_any (c s : Dev nD) : rPts m c s ⊢ rAny c s := by
  unfold rPts owns rAny
  iintro ⟨%f, -, H⟩
  iexists f; iexact H
theorem aPts_any (c s : Dev nD) : aPts m c s ⊢ aAny c s := by
  unfold aPts owns aAny
  iintro ⟨%f, -, H⟩
  iexists f; iexact H

theorem rs_close (c : Dev nD) : bigSep Finset.univ (rPts m c) ⊢ iprop(∃ f, ((c : Thread nD τ).loc cc0_scratch3) ↦{fullShare} f) :=
  (bigSep_mono fun s _ => rPts_any m c s).trans (rRows_close m c)
theorem as_close (c : Dev nD) : bigSep Finset.univ (aPts m c) ⊢ iprop(∃ f, ((c : Thread nD τ).loc cc0_scratch4) ↦{fullShare} f) :=
  (bigSep_mono fun s _ => aPts_any m c s).trans (aRows_close m c)

/-! ## What a device starts with, in bundles -/

omit [FloatOps F] in
theorem own_open (c : Dev nD) (Φ : Dev nD → sProp 𝕄) : bigSep Finset.univ Φ = iprop(Φ c ∗ bigSep (Finset.univ.erase c) Φ) := by
  rw [bigSep_erase (Finset.mem_univ c)]; rfl

omit [FloatOps F] in
/-- A device's payments, with the rows it hands over. -/
theorem toks_open (c : Dev nD) : iprop(peerToks c ∗ (bigSep Finset.univ fun s => rAny c s) ∗ bigSep Finset.univ fun s => aAny c s)
    ⊢ (iprop((rAny c c ∗ aAny c c) ∗ bigSep (Finset.univ.erase c) (sigR c) ∗ bigSep (Finset.univ.erase c) (rsT c) ∗ bigSep (Finset.univ.erase c) (agT c)) : sProp 𝕄) := by
  rw [own_open c fun s => (rAny c s : sProp 𝕄), own_open c fun s => (aAny c s : sProp 𝕄)]
  rw [show (sigR c : Dev nD → sProp 𝕄) = fun p => iprop(dutyTok ER (barC p) 0 c ∗ rAny c p ∗ aAny c p) from rfl,
    show (peerToks c : sProp 𝕄) = bigSep (Finset.univ.erase c) (fun p => iprop(dutyTok ER (barC p) 0 c ∗ rsT c p ∗ agT c p)) from rfl,
    bigSep_sep', bigSep_sep', bigSep_sep', bigSep_sep']
  iintro ⟨⟨H1, H2, H3⟩, ⟨HR, HRs⟩, HA, HAs⟩
  isplitl [HR HA]
  · isplitl [HR] <;> iassumption
  isplitl [H1 HRs HAs]
  · isplitl [H1]; · iexact H1
    isplitl [HRs] <;> iassumption
  isplitl [H2]; · iexact H2
  iexact H3

omit [FloatOps F] in
/-- The four families of a device's semaphores: its own and the rest. -/
theorem four_open (c : Dev nD) (Φ : Fin 4 → Dev nD → sProp 𝕄) : (bigSep Finset.univ fun a : Fin 4 => bigSep Finset.univ fun p : Dev nD => Φ a p)
    = iprop((Φ 0 c ∗ bigSep (Finset.univ.erase c) (Φ 0)) ∗ (Φ 1 c ∗ bigSep (Finset.univ.erase c) (Φ 1))
      ∗ (Φ 2 c ∗ bigSep (Finset.univ.erase c) (Φ 2)) ∗ (Φ 3 c ∗ bigSep (Finset.univ.erase c) (Φ 3))) := by
  rw [bigSep_univ_eq_bigSepL [(0 : Fin 4), 1, 2, 3] (by decide) (by decide), ← own_open c (Φ 0), ← own_open c (Φ 1), ← own_open c (Φ 2), ← own_open c (Φ 3)]
  rfl

omit [FloatOps F] in
theorem posns_open (c : Dev nD) : posns c ⊢ (iprop(atPos ER (barC c) 0 ∅ 0 ∗ atPos ER (tabC c) 0 ∅ 0
    ∗ (pos c 0 c ∗ bigSep (Finset.univ.erase c) (pos c 0)) ∗ (pos c 1 c ∗ bigSep (Finset.univ.erase c) (pos c 1))
      ∗ (pos c 2 c ∗ bigSep (Finset.univ.erase c) (pos c 2)) ∗ (pos c 3 c ∗ bigSep (Finset.univ.erase c) (pos c 3))) : sProp 𝕄) := by
  unfold posns
  rw [← four_open c (fun a p => (pos c a p : sProp 𝕄))]
  exact Entails.of_eq rfl
omit [FloatOps F] in
theorem creds_open (c : Dev nD) : creds c ⊢ (iprop(cred (tallyAt (barC c) () 7) ∗ bigSep (Finset.univ.erase c) (crd c 1) ∗ bigSep (Finset.univ.erase c) (crd c 3)) : sProp 𝕄) := by
  unfold creds
  rw [bigSep_sep']
  exact Entails.of_eq rfl
omit [FloatOps F] in
theorem fins_close (c : Dev nD) : iprop((fin c 0 c ∗ bigSep (Finset.univ.erase c) (fin c 0)) ∗ (fin c 1 c ∗ bigSep (Finset.univ.erase c) (fin c 1))
      ∗ (fin c 2 c ∗ bigSep (Finset.univ.erase c) (fin c 2)) ∗ (fin c 3 c ∗ bigSep (Finset.univ.erase c) (fin c 3)))
    ⊢ (bigSep Finset.univ fun a : Fin 4 => bigSep Finset.univ fun p : Dev nD => semVal (xC c a p) 0 : sProp 𝕄) := by
  rw [← four_open c (fun a p => (fin c a p : sProp 𝕄))]
  exact Entails.of_eq rfl

/-! ## The obligation -/

variable (ρ : Dev nD → PrngReg)

theorem fin_N (t : Fin cfg0.N) : t = t0_0 := fin_N0 t

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
/-- What the pipeline hands the body, and what it takes back. -/
def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
set_option maxRecDepth 4000 in
def bodyPost (c : Dev nD) : sProp 𝕄 :=
  iprop(Φ₁ m c ∗ (dats m ρ 0 c).owesAt () t0_0.succ ∗ stg c cc0_stg0_0 (idxV m c) ∗ stg c cc0_stg1_0 (outV m))

/-- What the body leaves, put together. -/
theorem body_close (K : Dev nD × Fin 34 → ℕ) (c : Dev nD) :
    iprop(recs m K ∗ (pos c 0 c ∗ pos c 1 c ∗ pos c 2 c ∗ pos c 3 c) ∗ (debt c (agFrom c 7) ∗ argPts m c ∗ tPts m c ∗ xPts m c ∗ outTo m c 8 ∗ semVal (barC c) 0 ∗ semVal (tabC c) 0 ∗
        bigSep Finset.univ (segPts m c) ∗ bigSep Finset.univ (rPts m c) ∗ bigSep Finset.univ (aPts m c) ∗ bigSep (Finset.univ.erase c) (gPts m c) ∗ bigSep (Finset.univ.erase c) (fin c 0) ∗ bigSep (Finset.univ.erase c) (fin c 1) ∗ bigSep (Finset.univ.erase c) (fin c 2) ∗ bigSep (Finset.univ.erase c) (fin c 3)))
      ⊢ |={Set.univ}=> bodyPost m ρ c := by
  iintro ⟨#HR, ⟨Hp0, Hp1, Hp2, Hp3⟩, HO, HA, HT, HX, HU, Hb, Ht, HS, Hr, Ha, HG, Hf0, Hf1, Hf2, Hf3⟩
  imod (self_close m K c 0) $$ [Hp0] with Hq0
  · isplitr; · iexact HR
    iexact Hp0
  imod (self_close m K c 1) $$ [Hp1] with Hq1
  · isplitr; · iexact HR
    iexact Hp1
  imod (self_close m K c 2) $$ [Hp2] with Hq2
  · isplitr; · iexact HR
    iexact Hp2
  imod (self_close m K c 3) $$ [Hp3] with Hq3
  · isplitr; · iexact HR
    iexact Hp3
  imodintro
  ihave HS := (segs_close m c) $$ HS
  ihave Hr := (rs_close m c) $$ Hr
  ihave Ha := (as_close m c) $$ Ha
  ihave HG := (Entails.of_eq (g_deal m c).symm) $$ HG
  unfold bodyPost Φ₁ scratch closed Dat.owesAt Pipeline.owesWithin debt outTo tPts gWhole xPts
  rw [show (dats m ρ 0 c).owed t0_0.succ = 0 from rfl]
  icases HO with ⟨%W, HO⟩
  icases HU with ⟨%g, %hg, HU⟩
  have hg' : g = outV m := funext fun i => hg i (Nat.div_lt_of_lt_mul (i 0).isLt)
  subst hg'
  isplitl [HS Hr Ha HG HT Hb Ht Hf0 Hf1 Hf2 Hf3 Hq0 Hq1 Hq2 Hq3 HA]
  · isplitl [HS Hr Ha HG HT]
    · isplitl [HT]
      · iexists (tabV m c)
        rw [show (tM : Memref sig .tc .vmem S2048x256 .f32).view.set = Finset.univ from View.set_whole _]; iexact HT
      isplitl [HS]; · iexact HS
      isplitl [HG]; · iexists _; iexact HG
      isplitl [Hr] <;> iassumption
    isplitl [Hb Ht Hf0 Hf1 Hf2 Hf3 Hq0 Hq1 Hq2 Hq3]
    · isplitl [Hb]; · iexact Hb
      isplitl [Ht]; · iexact Ht
      iapply (fins_close c)
      isplitl [Hf0 Hq0]; · isplitl [Hq0] <;> iassumption
      isplitl [Hf1 Hq1]; · isplitl [Hq1] <;> iassumption
      isplitl [Hf2 Hq2]; · isplitl [Hq2] <;> iassumption
      isplitl [Hq3] <;> iassumption
    iexact HA
  isplitl [HO]
  · iexists W
    isplitr; · ipureintro; exact fun _ _ => Or.inl trivial
    iexact HO
  isplitl [HX]
  · iexists _; isplitr; · (ipureintro; rfl)
    iexact HX
  iexists _; isplitr; · (ipureintro; rfl)
  iexact HU

/-- The body, from what the pipeline hands it. -/
theorem sound_body (c : Dev nD) : bodyPre m ρ c ⊢ WP c (cc0_body hM (Memref.isWhole_whole _) xM (Memref.isWhole_whole _) oM (Memref.isWhole_whole _) tM (Memref.isWhole_whole _) pM (Memref.isWhole_whole _) gM (Memref.isWhole_whole _) rM (Memref.isWhole_whole _) aM (Memref.isWhole_whole _) cc0_scratch5 cc0_scratch6 cc0_scratch7 cc0_scratch8 cc0_scratch9)
    (fun _ => bodyPost m ρ c) := by
  unfold bodyPre Φ₀ start scratch
  iintro ⟨⟨⟨⟨%K, #HR⟩, Hpos, ⟨Hd, Htok⟩, Hcr, HA⟩, HT, HP, HG, HRr, HAr⟩, HO, ⟨%d0, %g0, %hg0, HX⟩, ⟨%d1, %g1, %hg1, HU⟩⟩
  have hx : g0 = idxV m c := by
    rw [hg0]; unfold Dat.before
    rw [if_pos (show (cfg0.win (0 : Fin 2)).fetch t0_0 = true from fetch0_0 t0_0)]; rfl
  subst hx
  unfold Dat.owesAt Pipeline.owesWithin
  icases HO with ⟨%W, %hW, HO⟩
  rw [show (dats m ρ 0 c).owed t0_0.castSucc = O₀ c from rfl]
  icases (posns_open c) $$ Hpos with ⟨Hbp, Htp, ⟨Hp0, HP0⟩, ⟨Hp1, HP1⟩, ⟨Hp2, HP2⟩, Hp3, HP3⟩
  icases (creds_open c) $$ Hcr with ⟨Hbc, HC1, HC3⟩
  icases (chunks_open c) $$ HP with ⟨Hk0, Hk1, Hk2, Hk3⟩
  ihave HRr := (rRows_open c) $$ HRr
  ihave HAr := (aRows_open c) $$ HAr
  icases (toks_open c) $$ [Htok HRr HAr] with ⟨⟨Hrc, Hac⟩, B1, B2, B3⟩
  · isplitl [Htok]; · iexact Htok
    isplitl [HRr] <;> iassumption
  iapply (wp_fupd frame (wpE (defs₀ (F := F)) 𝒱₀ (c : Thread nD τ) none) Set.univ _ (fun _ => bodyPost m ρ c))
  iapply (body_run m K c) $$ [HO HA HT Hd Hbc Hbp Htp HX Hk0 Hk1 Hk2 Hk3 Hrc Hac HG HU B1 B2 B3 HC1 HP1 HC3 HP3 HP0 HP2]
  · isplitr; · iexact HR
    isplitl [HO]; · unfold debt; iexists W; iexact HO
    isplitl [HA]; · iexact HA
    isplitl [HT]; · iexact HT
    isplitl [Hd]; · iexact Hd
    isplitl [Hbc]; · iexact Hbc
    isplitl [Hbp]; · iexact Hbp
    isplitl [Htp]; · iexact Htp
    isplitl [HX]; · unfold xPts; iexact HX
    isplitl [Hk0]; · iexact Hk0
    isplitl [Hk1]; · iexact Hk1
    isplitl [Hk2]; · iexact Hk2
    isplitl [Hk3]; · iexact Hk3
    isplitl [Hrc]; · iexact Hrc
    isplitl [Hac]; · iexact Hac
    isplitl [HG]; · iexact HG
    isplitl [HU]
    · unfold outTo; iexists g1
      isplitr; · ipureintro; exact fun i h => absurd h (Nat.not_lt_zero _)
      iexact HU
    isplitl [B1]; · iexact B1
    isplitl [B2]; · iexact B2
    isplitl [B3]; · iexact B3
    isplitl [HC1]; · iexact HC1
    isplitl [HP1]; · iexact HP1
    isplitl [HC3]; · iexact HC3
    isplitl [HP3]; · iexact HP3
    isplitl [HP0] <;> iassumption
  iintro H
  iapply (body_close m ρ K c)
  isplitr; · iexact HR
  isplitl [Hp0 Hp1 Hp2 Hp3]
  · isplitl [Hp0]; · iexact Hp0
    isplitl [Hp1]; · iexact Hp1
    isplitl [Hp2] <;> iassumption
  iexact H

set_option maxRecDepth 40000 in
set_option maxHeartbeats 1000000 in
/-- The pipeline's obligation of the body on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ WP c (cc0_body hM (Memref.isWhole_whole _) xM (Memref.isWhole_whole _) oM (Memref.isWhole_whole _) tM (Memref.isWhole_whole _) pM (Memref.isWhole_whole _) gM (Memref.isWhole_whole _) rM (Memref.isWhole_whole _) aM (Memref.isWhole_whole _) cc0_scratch5 cc0_scratch6 cc0_scratch7 cc0_scratch8 cc0_scratch9)
    (fun _ => bodyPost m ρ c)
  exact sound_body m ρ c

end Cert.Gather

end
-- ==== Proof.Gather.Deal.lean ====
/- What the launch deals: every cell's invariant to all the devices, each device's place at its own cells, and each
   payment's token to the device that makes it; and with what credit a device starts to wait. -/
module

public import proofs.«01_k».proof.Proof.Gather.Obligation

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells of a device, one by one -/

theorem csem_injective : Function.Injective csem := by decide
theorem kcell_injective : Function.Injective (kcell : Dev nD × Fin 34 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

theorem xj_injective : Function.Injective fun ap : Fin 4 × Dev nD => xj ap.1 ap.2 := by decide
theorem cells_univ : (Finset.univ : Finset (Fin 34)) = insert 33 (insert 32 (Finset.univ.map ⟨fun ap : Fin 4 × Dev nD => xj ap.1 ap.2, xj_injective⟩)) := by decide

omit [FloatOps F] in
/-- The barrier, the table's semaphore and the four families. -/
theorem cells_split (Φ : Fin 34 → sProp 𝕄) : bigSep Finset.univ Φ
    = iprop(Φ 33 ∗ Φ 32 ∗ bigSep Finset.univ fun a : Fin 4 => bigSep Finset.univ fun p : Dev nD => Φ (xj a p)) := by
  rw [cells_univ, bigSep_insert (by decide), bigSep_insert (by decide), bigSep_map, bigSep_univ_prod]; rfl

omit [FloatOps F] in
/-- The same over a device's cells. -/
theorem kcells_split (c : Dev nD) (Ψ : GSem nD τ sig → sProp 𝕄) : (bigSep Finset.univ fun j : Fin 34 => Ψ (kcell (c, j)))
    = iprop(Ψ (barC c) ∗ Ψ (tabC c) ∗ bigSep Finset.univ fun a : Fin 4 => bigSep Finset.univ fun p : Dev nD => Ψ (xC c a p)) := by
  rw [cells_split]
  simp only [kcell, csem_xj, csem_tab, csem_bar]

theorem own_univ : (Finset.univ : Finset (Fin 34)) = insert 33 (Finset.univ.map ⟨Fin.castSucc, Fin.castSucc_injective 33⟩) := by decide
theorem csem_cast (j : Fin 33) : csem j.castSucc = osem j := by unfold csem; rw [dif_pos (show (j.castSucc).val < 33 from j.isLt)]; rfl
omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl
omit [FloatOps F] in
/-- The kernel's own semaphores and the barrier's are the cells. -/
theorem sems0_eq (c : Dev nD) :
    iprop(Pipeline.ownSems0 (Ix := Unit) (Name := ℕ) (U := UU) (Lvl := ℕ) (Val := Elt F) (τ := τ) osem c ∗ unscopedSems0 c)
      = (bigSep Finset.univ fun j : Fin 34 => semVal (kcell (c, j)) 0 : sProp 𝕄) := by
  rw [unscopedSems0_eq, own_univ, bigSep_insert (by decide), bigSep_map]
  have e (j : Fin 33) : (semVal (kcell (c, Fin.castSucc j)) 0 : sProp 𝕄) = semVal ((c : Thread nD τ), osem j) 0 := by
    unfold kcell; rw [csem_cast]
  have e' : (semVal (kcell (c, 33)) 0 : sProp 𝕄) = semVal (barC c) 0 := by unfold kcell; rw [csem_bar]
  rw [e']
  simp only [Function.Embedding.coeFn_mk, e]
  exact BI.equiv_iff.mp ⟨BI.sep_comm, BI.sep_comm⟩

/-! ## The tokens -/

/-- The kind of a payment: one of the four families, the barrier, the table. -/
def kindSem (p : Dev nD) : Fin 6 → SemLoc sig
  | ⟨0, _⟩ => .dma (xsem 0 p)
  | ⟨1, _⟩ => .dma (xsem 1 p)
  | ⟨2, _⟩ => .dma (xsem 2 p)
  | ⟨3, _⟩ => .dma (xsem 3 p)
  | ⟨4, _⟩ => .reg barS
  | ⟨5, _⟩ => .dma tabS
theorem kindSem_injective (p : Dev nD) : Function.Injective (kindSem p) := by revert p; decide
/-- A token: the cell's device, the payer's name, the kind. -/
abbrev tokOf (x : Dev nD × Dev nD × Fin 6) : GSem nD τ sig × ℕ × Dev nD := (((x.1 : Thread nD τ), kindSem x.2.1 x.2.2), 0, x.2.1)
theorem tokOf_injective : Function.Injective tokOf := by
  rintro ⟨c, p, k⟩ ⟨c', p', k'⟩ h
  have h1 : c = c' := by have := congrArg (fun x : GSem nD τ sig × ℕ × Dev nD => x.1.1.1) h; exact this
  have h2 : p = p' := congrArg (fun x : GSem nD τ sig × ℕ × Dev nD => x.2.2) h
  subst h1 h2
  have h3 : kindSem p k = kindSem p k' := congrArg (fun x : GSem nD τ sig × ℕ × Dev nD => x.1.2) h
  rw [kindSem_injective p h3]

def allCells : Finset (GSem nD τ sig) := Finset.univ.map ⟨kcell, kcell_injective⟩
def allToks : Finset (GSem nD τ sig × ℕ × Dev nD) := Finset.univ.map ⟨tokOf, tokOf_injective⟩

def u₀ : UU := (initOf (Pipeline.cells cfgs cellOf_inj) (Pipeline.launchToks cfgs cellOf_inj), initOf allCells allToks)

/-- The tokens of device `c`'s cells. -/
def toks (c : Dev nD) : sProp 𝕄 := bigSep Finset.univ fun p : Dev nD =>
  iprop(dutyTok ER (xC c 0 p) 0 p ∗ dutyTok ER (xC c 1 p) 0 p ∗ dutyTok ER (xC c 2 p) 0 p ∗ dutyTok ER (xC c 3 p) 0 p ∗ dutyTok ER (barC c) 0 p ∗ dutyTok ER (tabC c) 0 p)

/-- What the launch deals a device, before the devices exchange tokens. -/
def G (c : Dev nD) : sProp 𝕄 :=
  iprop((bigSep Finset.univ fun k : Fin 34 => roundState ER (rd m) (kcell (c, k)) 0)
    ∗ (bigSep Finset.univ fun k : Fin 34 => iprop(atPos ER (kcell (c, k)) 0 ∅ 0 ∗ reached ER (kcell (c, k)) 0)) ∗ toks c)

/-- What every device knows of the cells. -/
def known (K : Dev nD × Fin 34 → ℕ) : sProp 𝕄 :=
  iprop((bigSep Finset.univ fun cj : Dev nD × Fin 34 => cellInv ER (rd m) (K cj) (kcell cj))
    ∗ (bigSep Finset.univ fun cj : Dev nD × Fin 34 => reached ER (kcell cj) 0))
instance known_persistent (K : Dev nD × Fin 34 → ℕ) : BI.Persistent (known m K) := by unfold known; infer_instance

/-- The payments of device `c`. -/
def mine (c : Dev nD) : sProp 𝕄 := iprop(dutyTok ER (tabC c) 0 c ∗ peerToks c)
def G' (c : Dev nD) : sProp 𝕄 := iprop((∃ K, known m K) ∗ posns c ∗ mine c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 34 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks; rw [bigSep_univ_prod]
    refine bigSep_congr fun p _ => ?_
    rw [bigSep_univ_eq_bigSepL [(0 : Fin 6), 1, 2, 3, 4, 5] (by decide) (by decide)]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's cells, with their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : Fin 34 => semVal (kcell (c, k)) 0) ∗ bigSep Finset.univ fun k : Fin 34 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A family over the ordered pairs of devices, read from the other end. -/
theorem swap_open (A : Dev nD → Dev nD → sProp 𝕄) : (bigSep Finset.univ fun c : Dev nD => bigSep Finset.univ fun p : Dev nD => A c p)
    ⊢ bigSep Finset.univ fun c : Dev nD => bigSep (Finset.univ.erase c) fun p : Dev nD => A p c := by
  rw [← bigSep_univ_prod fun x : Dev nD × Dev nD => A x.1 x.2, bigSep_univ_equiv (Equiv.prodComm (Dev nD) (Dev nD)) (fun x : Dev nD × Dev nD => A x.1 x.2),
    bigSep_univ_prod]
  exact bigSep_mono fun c _ => bigSep_subset (Finset.erase_subset _ _)
omit [FloatOps F] in
theorem keep_open (A : Dev nD → Dev nD → sProp 𝕄) : (bigSep Finset.univ fun c : Dev nD => bigSep Finset.univ fun p : Dev nD => A c p)
    ⊢ bigSep Finset.univ fun c : Dev nD => bigSep (Finset.univ.erase c) fun p : Dev nD => A c p :=
  bigSep_mono fun c _ => bigSep_subset (Finset.erase_subset _ _)
omit [FloatOps F] in
theorem self_open (A : Dev nD → Dev nD → sProp 𝕄) : (bigSep Finset.univ fun c : Dev nD => bigSep Finset.univ fun p : Dev nD => A c p)
    ⊢ bigSep Finset.univ fun c : Dev nD => A c c :=
  bigSep_mono fun c _ => bigSep_elim (Finset.mem_univ c)

omit [FloatOps F] in
/-- Every token goes to the device that pays it: a barrier's, and the two landings' on a device, to the peer. -/
theorem toks_around : (bigSep Finset.univ fun c : Dev nD => (toks c : sProp 𝕄)) ⊢ bigSep Finset.univ fun c : Dev nD => mine c := by
  unfold toks mine peerToks
  simp only [bigSep_sep']
  iintro ⟨H0, H1, H2, H3, HB, HT⟩
  isplitl [HT]; · iapply (self_open fun c p => (dutyTok ER (tabC c) 0 p : sProp 𝕄)); iexact HT
  isplitl [HB]; · iapply (swap_open fun c p => (dutyTok ER (barC c) 0 p : sProp 𝕄)); iexact HB
  isplitl [H0 H1]
  · isplitl [H1]; · iapply (swap_open fun c p => (dutyTok ER (xC c 1 p) 0 p : sProp 𝕄)); iexact H1
    iapply (keep_open fun c p => (dutyTok ER (xC c 0 p) 0 p : sProp 𝕄)); iexact H0
  · isplitl [H3]; · iapply (swap_open fun c p => (dutyTok ER (xC c 3 p) 0 p : sProp 𝕄)); iexact H3
    iapply (keep_open fun c p => (dutyTok ER (xC c 2 p) 0 p : sProp 𝕄)); iexact H2

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × Fin 34 → ℕ) (c : Dev nD) : iprop(known m K ∗ (posns c ∗ mine c)) ⊢ G' m c := by
  unfold G'
  iintro ⟨#HK, HP, HM⟩
  isplitr; · iexists K; iexact HK
  isplitl [HP] <;> iassumption

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 34 => iprop(∃ κ : ℕ, cellInv ER (rd m) κ (kcell ck))),
    bigSep_congr (s := Finset.univ) (fun (c : Dev nD) _ => bigSep_sep' Finset.univ (fun k : Fin 34 => (atPos ER (kcell (c, k)) 0 ∅ 0 : sProp 𝕄)) (fun k => reached ER (kcell (c, k)) 0)),
    bigSep_sep', ← bigSep_univ_prod (fun ck : Dev nD × Fin 34 => (reached ER (kcell ck) 0 : sProp 𝕄))]
  iintro ⟨HI, ⟨Hat, #HR⟩, Htok⟩
  icases (BI.bigSep_exists_pi Finset.univ (fun (ck : Dev nD × Fin 34) (κ : ℕ) => (cellInv ER (rd m) κ (kcell ck) : sProp 𝕄))) $$ HI with ⟨%K, #HI⟩
  ihave Htk := (toks_around (F := F)) $$ Htok
  iapply (with_persistent (R := known m K) fun c _ => G'_intro m K c)
  isplitr
  · unfold known; isplitl; · iexact HI
    iexact HR
  · have e : (bigSep Finset.univ fun c : Dev nD => bigSep Finset.univ fun k : Fin 34 => (atPos ER (kcell (c, k)) 0 ∅ 0 : sProp 𝕄)) = bigSep Finset.univ fun c : Dev nD => posns c :=
      bigSep_congr fun c _ => kcells_split c fun g => (atPos ER g 0 ∅ 0 : sProp 𝕄)
    iapply (Entails.of_eq (bigSep_sep' Finset.univ (fun c : Dev nD => (posns c : sProp 𝕄)) mine).symm)
    isplitl [Hat]; · iapply (Entails.of_eq e); iexact Hat
    iexact Htk

/-- The devices' cells and tokens, all at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem owe_apply (l : List (GSem nD τ sig × ℕ)) (g : GSem nD τ sig) : owe l g () = (l.map fun x => if x.1 = g then x.2 else 0).sum := by
  induction l with
  | nil => rfl
  | cons x l ih =>
    rw [owe_cons, Pi.add_apply, Finsupp.add_apply, tallyAt_apply, ih, List.map_cons, List.sum_cons, Nat.add_comm]
    congr 1
    by_cases h : x.1 = g
    · rw [if_pos h, if_pos ⟨h.symm, rfl⟩]
    · rw [if_neg h, if_neg fun h' => h h'.1.symm]

/-- A payment `n` to one cell per peer, in a list of peers. -/
theorem sum_peers (l : List (Dev nD)) (f : Dev nD → GSem nD τ sig) (g : GSem nD τ sig) (n : ℕ) (c : Dev nD) (hf : ∀ p, (f p = g ↔ p = c)) :
    (((l.map fun p => (f p, n)).map fun x => if x.1 = g then x.2 else 0)).sum = l.count c * n := by
  induction l with
  | nil => exact (Nat.zero_mul n).symm
  | cons p l ih =>
    rw [List.map_cons, List.map_cons, List.sum_cons, ih, List.count_cons, Nat.add_mul, Nat.add_comm]
    congr 1
    by_cases h : p = c
    · rw [if_pos ((hf p).mpr h), h, if_pos (beq_self_eq_true c), Nat.one_mul]
    · rw [if_neg fun h' => h ((hf p).mp h'), if_neg (by simpa using h), Nat.zero_mul]
theorem sum_none (l : List (Dev nD)) (f : Dev nD → GSem nD τ sig) (g : GSem nD τ sig) (n : ℕ) (hf : ∀ p, f p ≠ g) :
    (((l.map fun p => (f p, n)).map fun x => if x.1 = g then x.2 else 0)).sum = 0 := by
  induction l with
  | nil => rfl
  | cons p l ih => rw [List.map_cons, List.map_cons, List.sum_cons, ih, if_neg (hf p)]

theorem x_ne_bar (d c : Dev nD) (a : Fin 4) (p : Dev nD) : xC d a p ≠ barC c := fun h => by cases congrArg (fun g : GSem nD τ sig => g.2) h
theorem bar_ne_x (d c : Dev nD) (a : Fin 4) (p : Dev nD) : barC d ≠ xC c a p := fun h => x_ne_bar c d a p h.symm
theorem bar_iff (d c : Dev nD) : (barC d = barC c ↔ d = c) :=
  ⟨fun h => by have := congrArg (fun g : GSem nD τ sig => g.1.1) h; exact this, fun h => h ▸ rfl⟩
theorem xsem_inj {a a' : Fin 4} {p p' : Dev nD} (h : xsem a p = xsem a' p') : a = a' ∧ p = p' := by
  have := congrArg decode h; rw [decode_xsem, decode_xsem] at this
  have := Option.some.inj this; exact ⟨congrArg Prod.fst this, congrArg Prod.snd this⟩
theorem x_inj {d c : Dev nD} {a a' : Fin 4} {p p' : Dev nD} (h : xC d a p = xC c a' p') : d = c ∧ a = a' ∧ p = p' := by
  have h1 : d = c := by have := congrArg (fun g : GSem nD τ sig => g.1.1) h; exact this
  have h2 : SemLoc.dma (xsem a p) = SemLoc.dma (xsem a' p') := congrArg (fun g : GSem nD τ sig => g.2) h
  exact ⟨h1, xsem_inj (SemLoc.dma.inj h2)⟩

theorem ring_count (d c : Dev nD) : (ringOrder d).count c = if d = c then 0 else 1 := by revert d c; decide
theorem send_count (d c : Dev nD) : (sendOrder d).count c = if d = c then 0 else 1 := by revert d c; decide

theorem owed_bar (d c : Dev nD) : O₀ d (barC c) () = if d = c then 0 else 1 := by
  unfold O₀ barL rsL agL
  rw [owe_apply, List.map_append, List.map_append, List.sum_append, List.sum_append, sum_peers _ _ _ _ c fun p => bar_iff p c,
    sum_none _ _ _ _ fun p => x_ne_bar p c 1 d, sum_none _ _ _ _ fun p => x_ne_bar p c 3 d, ring_count, Nat.mul_one]; rfl
theorem owed_r (d c p : Dev nD) : O₀ d (xC c 1 p) () = if d = p then (if d = c then 0 else N) else 0 := by
  unfold O₀ barL rsL agL
  rw [owe_apply, List.map_append, List.map_append, List.sum_append, List.sum_append, sum_none _ _ _ _ fun q => bar_ne_x q c 1 p,
    sum_none (ringOrder d) _ _ _ fun q h => absurd (x_inj h).2.1 (by decide)]
  by_cases h : d = p
  · subst h
    rw [if_pos rfl, sum_peers _ _ _ _ c fun q => ⟨fun h => (x_inj h).1, fun h => h ▸ rfl⟩, send_count]
    split <;> simp
  · rw [if_neg h, sum_none _ _ _ _ fun q h' => h (x_inj h').2.2]
theorem owed_a (d c p : Dev nD) : O₀ d (xC c 3 p) () = if d = p then (if d = c then 0 else N) else 0 := by
  unfold O₀ barL rsL agL
  rw [owe_apply, List.map_append, List.map_append, List.sum_append, List.sum_append, sum_none _ _ _ _ fun q => bar_ne_x q c 3 p,
    sum_none (sendOrder d) _ _ _ fun q h => absurd (x_inj h).2.1 (by decide)]
  by_cases h : d = p
  · subst h
    rw [if_pos rfl, sum_peers _ _ _ _ c fun q => ⟨fun h => (x_inj h).1, fun h => h ▸ rfl⟩, ring_count]
    split <;> simp
  · rw [if_neg h, sum_none _ _ _ _ fun q h' => h (x_inj h').2.2]

/-- A device waits at its barrier for one unit of each peer, -/
theorem launch_bar (c : Dev nD) :
    tallyOn (barC c) (launchCredit (Pipeline.owing O₀) 0 (barC c)) = (tallyAt (barC c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
/-- and at a landing for the block of the one device that sends it. -/
theorem launch_x (c p : Dev nD) (a : Fin 4) (hp : p ≠ c) (h : ∀ d, O₀ d (xC c a p) () = if d = p then (if d = c then 0 else N) else 0) :
    tallyOn (xC c a p) (launchCredit (Pipeline.owing O₀) 0 (xC c a p)) = (tallyAt (xC c a p) () N : CellTallies nD τ sig Unit) := by
  unfold tallyAt; refine congrArg _ (Finsupp.ext fun u => ?_); cases u
  rw [Pipeline.launchCredit_owing, Finsupp.single_eq_same, Finset.sum_congr rfl fun d _ => h d,
    Finset.sum_ite_eq' Finset.univ p fun d => if d = c then 0 else N, if_pos (Finset.mem_univ _), if_neg hp]

omit [FloatOps F] in
theorem creds_intro (c : Dev nD) : (Pipeline.launchCred O₀ c : sProp 𝕄) ⊢ creds c := by
  have e : (Pipeline.launchCred O₀ c : sProp 𝕄) ⊢ bigSep Finset.univ fun j : Fin 34 => cred (tallyOn (kcell (c, j)) (launchCredit (Pipeline.owing O₀) 0 (kcell (c, j)))) := by
    unfold Pipeline.launchCred
    refine (bigSep_subset (Φ := fun sm : SemLoc sig => (cred (tallyOn ((c.tc : Thread nD τ), sm) (launchCredit (Pipeline.owing O₀) 0 ((c.tc : Thread nD τ), sm))) : sProp 𝕄)) (Finset.subset_univ (Finset.univ.map ⟨csem, csem_injective⟩))).trans ?_
    rw [bigSep_map]; rfl
  refine e.trans ?_
  rw [kcells_split c fun g => (cred (tallyOn g (launchCredit (Pipeline.owing O₀) 0 g)) : sProp 𝕄),
    four_open c fun a p => (cred (tallyOn (xC c a p) (launchCredit (Pipeline.owing O₀) 0 (xC c a p))) : sProp 𝕄), launch_bar]
  unfold creds
  rw [bigSep_sep']
  have h1 : (bigSep (Finset.univ.erase c) fun p : Dev nD => (cred (tallyOn (xC c 1 p) (launchCredit (Pipeline.owing O₀) 0 (xC c 1 p))) : sProp 𝕄))
      = bigSep (Finset.univ.erase c) fun p => cred (tallyAt (xC c 1 p) () N) :=
    bigSep_congr fun p hp => by rw [launch_x c p 1 (Finset.mem_erase.mp hp).1 fun d => owed_r d c p]
  have h3 : (bigSep (Finset.univ.erase c) fun p : Dev nD => (cred (tallyOn (xC c 3 p) (launchCredit (Pipeline.owing O₀) 0 (xC c 3 p))) : sProp 𝕄))
      = bigSep (Finset.univ.erase c) fun p => cred (tallyAt (xC c 3 p) () N) :=
    bigSep_congr fun p hp => by rw [launch_x c p 3 (Finset.mem_erase.mp hp).1 fun d => owed_a d c p]
  rw [h1, h3]
  iintro ⟨HB, -, -, ⟨-, H1⟩, -, ⟨-, H3⟩⟩
  isplitl [HB]; · iexact HB
  isplitl [H1] <;> iassumption

end Cert.Gather

end
-- ==== Proof.Gather.Run.lean ====
/- The run of the whole program, at any float values: it ends, from any memory with every semaphore at zero, with each
   device's result at the contents that the protocol computes and both arguments unchanged. -/
module

public import proofs.«01_k».proof.Proof.Gather.Deal
public import Idealize.ShloMosaic.Lib.Pipeline.CollectiveSegs
public import Idealize.ShloMosaic.Lib.Pipeline.ValueKit.Geometry

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show Pipeline.unscopedRest cfg0.spec c (fun b => m ((c : Thread nD τ).loc b)) = argPts m c from unscopedRest0_eq c _]
  unfold G' known start recs mine
  iintro ⟨HA, #Hlev, Hcr, -, ⟨%K, #HI, #HR⟩, HP, HM⟩
  ihave Hc := (creds_intro (F := F) c) $$ Hcr
  imodintro
  isplitl
  · isplitr
    · iexists K
      isplitr; · iexact Hlev
      isplitr; · iexact HI
      iexact HR
    isplitl [HP]; · iexact HP
    isplitl [HM]; · iexact HM
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop((unscopedSems0 c ∗ argPts m c) ∗ Pipeline.ownSems0 osem c ∗ Pipeline.scopedRest cfg0.spec c) := by
  rw [show (dats m ρ 0 c).Φ (Fin.last cfg0.N) = Φ₁ m c from rfl, scopedRest0_eq]
  have e : closed c ⊢ (iprop(Pipeline.ownSems0 osem c ∗ unscopedSems0 c) : sProp 𝕄) := by
    rw [sems0_eq, kcells_split c fun g => (semVal g 0 : sProp 𝕄)]; unfold closed; exact Entails.of_eq rfl
  unfold Φ₁ scratch
  iintro ⟨Hs, Hc, HA⟩
  icases e $$ Hc with ⟨Ho, Hu⟩
  isplitl [Hu HA]
  · isplitl [Hu] <;> iassumption
  isplitl [Ho]; · iexact Ho
  iexact Hs

theorem mayWait_stage (c : Dev nD) (sm : SemLoc sig) (h : lvOf sm = 0) (O : CellTallies nD τ sig Unit) (hO : O = O₀ c ∨ O = 0) :
    (levAts L lv : sProp 𝕄) ⊢ MayWait (c : Thread nD τ) sm () O := by
  rcases hO with rfl | rfl
  · exact mayWait_low c sm h
  · exact mayWait_nil c sm

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The table's block is unchanged on a device, read off at the end. -/
theorem arg_read (c : Dev nD) (s' : Phys nD τ sig (Elt F)) :
    iprop(argPts m c ∗ SI s') ⊢ (iprop(⌜s'.mem.mem ((c : Thread nD τ).loc main_arg0) = m ((c : Thread nD τ).loc main_arg0)⌝ ∗ SI s') : sProp 𝕄) := by
  unfold argPts
  iintro ⟨H, HSI⟩
  icombine HSI H gives %h
  isplitr
  · ipureintro; exact Buf.eq_of_forall_mem_univ h
  · iexact HSI

def finalA (c : Dev nD) (w : Fin cfg0.W) : Buf (Elt F) ((cfg0.win w).arr.view.loc (c : Thread nD τ)) := (dats m ρ 0 c).arrAt w cfg0.N

/-- What a run leaves in memory. -/
def QC : PUnit × MemSt nD τ sig (Elt F) → Prop := fun r => ∀ c : Dev nD,
  (∀ w : Fin cfg0.W, r.2.mem ((cfg0.win w).arr.view.loc (c : Thread nD τ)) = finalA m ρ c w)
    ∧ r.2.mem ((c : Thread nD τ).loc main_arg0) = m ((c : Thread nD τ).loc main_arg0)

set_option maxRecDepth 8000 in
/-- Every run of the program on the eight devices, from any memory with every semaphore at zero and for any float values,
    ends, with every semaphore at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      icases (ownU_pair _ _) $$ Hu with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ argPts m c)) (Z := fun _ => iprop(emp))
    (hX := start_intro m ρ) (hin := phi0_intro m ρ) (hout := phi1_exit m ρ)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      iintro ⟨⟨Hu, HA⟩, -, HSI⟩
      icases (arg_read m c s') $$ [HA HSI] with ⟨%h, HSI⟩
      · isplitl [HA] <;> iassumption
      imod (Pipeline.unscopedSems0_read (X := unscopedSems0 c) (c := c) fupd_intro s') $$ [Hu HSI] with ⟨%h', HSI⟩
      · isplitl [Hu] <;> iassumption
      imodintro
      isplitr; · ipureintro; exact ⟨h, h'⟩
      iexact HSI)
    (hQ := fun _ h hs => ⟨fun c => ⟨fun w => (h c).1 w, (h c).2.2.1⟩, sem_eq_zero hs fun c => (h c).2.2.2⟩)

/-- The indices are unchanged, -/
theorem finalA_idx (c : Dev nD) : finalA m ρ c (0 : Fin 2) = m ((c : Thread nD τ).loc main_arg1) :=
  (dats (F := F) m ρ 0 c).arrAt_in (0 : Fin 2) rfl _
/-- and the result is what the protocol computes. -/
theorem finalA_out (c : Dev nD) : finalA m ρ c (1 : Fin 2) = outV m :=
  (dats (F := F) m ρ 0 c).arrAt_eq_of_after_last (1 : Fin 2) t0_0 (by decide +kernel) (outV m) fun j => rfl

/-- The run, read at the arguments and the result. -/
theorem run_value : θ_run defs (onTc (τ := τ) (main (F := F))) ⟨m, fun _ => 0, ρ⟩ (fun r => (∀ c : Dev nD,
    r.2.mem ((c.tc : Thread nD τ).loc main_v1) = (outV m : (main_v1 : Ref sig .tc).ty.Contents (Elt F))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).1 1).trans (finalA_out m ρ c), (h.1 c).2, ((h.1 c).1 0).trans (finalA_idx m ρ c)⟩, h.2⟩) (run_main m ρ)
/-- The frame: the arguments end unchanged and every semaphore at zero. -/
theorem run_frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (run_value m ρ)

end Cert.Gather

end
-- ==== Proof.Gather.Table.lean ====
/- The mathematics of one device's part at exact arithmetic: the product of the transposed one-hot matrix with a block of
   the table has, at each row, the row of the block that the index names, or zero. -/
module

public import proofs.«01_k».proof.Proof.Gather.Contents
public import Idealize.ShloMosaic.Lib.Pointwise

@[expose] public section

noncomputable section

namespace Cert.Gather

open Cert.KernelIdeal Cert.KernelIdeal.Gen

open Idealize.ShloMosaic

/-- A comparison for equality, widened and made a float: one where the words agree, zero elsewhere. -/
theorem indicator (a b : BitVec 32) :
    (FloatOps.sitofp FTy.f32 (BitVec.setWidth 32 (IntOp.cmpi CmpIPredicate.eq a b)) : Ideal .f32) = if a = b then (1 : EReal) else 0 := by
  by_cases h : a = b
  · subst h
    rw [if_pos rfl, show IntOp.cmpi CmpIPredicate.eq a a = 1#1 by simp [IntOp.cmpi]]
    show (((BitVec.setWidth 32 1#1).toInt : ℝ) : EReal) = 1
    rw [show (BitVec.setWidth 32 1#1).toInt = 1 by decide]; norm_num
  · rw [if_neg h, show IntOp.cmpi CmpIPredicate.eq a b = 0#1 from (congrArg BitVec.ofBool (beq_false_of_ne h)).trans rfl]
    show (((BitVec.setWidth 32 0#1).toInt : ℝ) : EReal) = 0
    rw [show (BitVec.setWidth 32 0#1).toInt = 0 by decide]; norm_num

/-- A device's place is its number. -/
theorem place_eq (d : Dev nD) : place d = BitVec.ofNat 32 d.val := by revert d; decide

/-- The index less the first row of device `d`'s block is row `k` of the block exactly when the index is `2048 d + k`. -/
theorem row_iff (d : Dev nD) (x : BitVec 32) (k : Fin 2048) :
    IntOp.subi x (Scalar.muli (place d) 2048#32) = BitVec.ofNat 32 k.val ↔ x.toNat = 2048 * d.val + k.val := by
  have hd : d.val < 8 := d.isLt
  have hk := k.isLt
  have hx := x.isLt
  rw [place_eq]
  show x - BitVec.ofNat 32 d.val * 2048#32 = BitVec.ofNat 32 k.val ↔ _
  rw [← BitVec.toNat_inj]
  simp only [BitVec.toNat_sub, BitVec.toNat_mul, BitVec.toNat_ofNat]
  omega

/-- The part of a device, before any index is looked at: a sum over the rows of its block. -/
theorem part_sum (w : BitVec 32) (tab : Vec Ideal S2048x256 .f32) (ids : Vec Ideal S128 .i32) (r : Fin 128) (l : Fin 256) :
    k0_pay2 w tab ids (ix2 r l)
      = ∑ k : Fin 2048, (if IntOp.subi (ids (ix1 r)) (Scalar.muli w 2048#32) = BitVec.ofNat 32 k.val then (1 : EReal) else 0) * tab (ix2 k l) := by
  pointwise [k0_pay2, k0_pay1]
  exact Finset.sum_congr rfl fun k _ => by rw [indicator]

/-- The part of device `d` at a row: the row of its block that the index names, and zero when the index names a row of
    another block. -/
theorem part_value (d : Dev nD) (tab : Vec Ideal S2048x256 .f32) (ids : Vec Ideal S128 .i32) (r : Fin 128) (l : Fin 256) :
    k0_pay2 (place d) tab ids (ix2 r l)
      = if (ids (ix1 r)).toNat / 2048 = d.val then tab (ix2 ⟨(ids (ix1 r)).toNat % 2048, Nat.mod_lt _ (by decide)⟩ l) else (0 : EReal) := by
  rw [part_sum]
  simp only [row_iff]
  split_ifs with h
  · rw [Finset.sum_eq_single (⟨(ids (ix1 r)).toNat % 2048, Nat.mod_lt _ (by decide)⟩ : Fin 2048)]
    · rw [if_pos (by show (ids (ix1 r)).toNat = 2048 * d.val + (ids (ix1 r)).toNat % 2048; omega), one_mul]
    · intro k _ hk
      rw [if_neg (fun e => hk (Fin.ext (by show k.val = (ids (ix1 r)).toNat % 2048; have := k.isLt; omega))), zero_mul]
    · intro hn; exact absurd (Finset.mem_univ _) hn
  · refine Finset.sum_eq_zero fun k _ => ?_
    rw [if_neg (fun e => h (by have := k.isLt; omega)), zero_mul]

/-- The sum that a device forms of what it received. -/
theorem sum_value (v0 v1 v2 v3 v4 v5 v6 v7 : Vec Ideal S1x64x256 .bf16) (r : Fin 64) (l : Fin 256) :
    k0_pay9 (k0_pay8 v0 v1 v2 v3 v4) v5 v6 v7 (ix2 r l)
      = (v0 (ix3 0 r l) + v1 (ix3 0 r l) + v2 (ix3 0 r l) + v3 (ix3 0 r l) + v4 (ix3 0 r l) + v5 (ix3 0 r l) + v6 (ix3 0 r l) + v7 (ix3 0 r l) : EReal) := by
  pointwise [k0_pay9, k0_pay8]

/-- Of eight terms that are zero but for the one at place `d`, the sum is that one. -/
theorem sum_pick (T : ℕ → EReal) (d : ℕ) (hd : d < 8) (v : Fin 8 → EReal) (hv : ∀ s : Fin 8, v s = if d = s.val then T s.val else 0) :
    v 0 + v 1 + v 2 + v 3 + v 4 + v 5 + v 6 + v 7 = T d := by
  rw [← Fin.sum_univ_eight, Finset.sum_eq_single (⟨d, hd⟩ : Fin 8)]
  · rw [hv, if_pos rfl]
  · intro s _ hs; rw [hv, if_neg (fun e => hs (Fin.ext e.symm))]
  · intro hn; exact absurd (Finset.mem_univ _) hn

end Cert.Gather

end
-- ==== Proof.Gather.Result.lean ====
/- The kernel's result at exact arithmetic, element by element: row `i` is the table's row at index `i`. -/
module

public import proofs.«01_k».proof.Proof.Gather.Table
public import Idealize.ShloMosaic.Lib.Layout

@[expose] public section

noncomputable section

namespace Cert.Gather

open Cert.KernelIdeal Cert.KernelIdeal.Gen

open Idealize.ShloMosaic
open Idealize.ShloMosaic.TcCoe

variable (m : (ℓ : Loc nD τ sig) → Buf (Elt Ideal) ℓ)

/-- Index `r` of pair `q` is index `128 q + r` of all. -/
theorem ids_value (c : Dev nD) (q : Fin 4) (r : Fin 128) (n : Fin 512) (hn : n.val = 128 * q.val + r.val) :
    idsV m c q (ix1 r) = (m ((c : Thread nD τ).loc main_arg1) : IVec S512 32) (ix1 n) := by
  show (m ((c : Thread nD τ).loc main_arg1) : IVec S512 32) _ = _
  congr 1
  funext a
  match a with
  | ⟨0, _⟩ => exact Fin.ext (by show 0 * 512 + 1 * (128 * q.val + 1 * r.val) = n.val; omega)

/-- Row `r` of what device `s` has for device `e` is row `64 e + r` of its partial result. -/
theorem share_value (s e : Dev nD) (r : Fin 64) (l : Fin 256) (n : Fin 512) (hn : n.val = 64 * e.val + r.val) :
    shareV m s e (ix2 r l) = partV m s (ix2 n l) := by
  show partV m s _ = partV m s _
  congr 1
  funext a
  match a with
  | ⟨0, _⟩ => exact Fin.ext (by show 64 * e.val + 1 * r.val = n.val; omega)
  | ⟨1, _⟩ => exact Fin.ext (by show 0 + 1 * l.val = l.val; omega)

/-- A block read back as one row of a landing buffer. -/
theorem row1_value (v : Vec Ideal S64x256 .bf16) (r : Fin 64) (l : Fin 256) : row1 v (ix3 0 r l) = v (ix2 r l) := by
  pointwise [row1]

section

variable (T : (⟨2, ![16384, 256]⟩ : Shape).Idx → EReal) (I : IVec S512 32)
  (ht : Layout.Tiles ⟨2, ![2048, 256]⟩ ⟨2, ![16384, 256]⟩ 0 8)
  (hT : ∀ c : Dev nD, m ((c.tc : Thread nD τ).loc main_arg0) = Layout.block ⟨2, ![2048, 256]⟩ ⟨2, ![16384, 256]⟩ 0 8 c T ht)
  (hI : ∀ c : Dev nD, m ((c.tc : Thread nD τ).loc main_arg1) = I)

include hT hI

/-- A device's partial result at a row: the table's row there if it lies in the device's block, else zero. -/
theorem partV_value (s : Dev nD) (n : Fin 512) (l : Fin 256) (hlt : (I (ix1 n)).toNat < 16384) :
    partV m s (ix2 n l) = if (I (ix1 n)).toNat / 2048 = s.val then T (ix2 ⟨(I (ix1 n)).toNat, hlt⟩ l) else (0 : EReal) := by
  have hn := n.isLt
  have e : idsV m s ⟨n.val / 128, by omega⟩ (ix1 (⟨n.val % 128, Nat.mod_lt _ (by decide)⟩ : Fin 128)) = I (ix1 n) := by
    rw [ids_value m s _ _ n (by show n.val = 128 * (n.val / 128) + n.val % 128; omega), hI]
  refine (part_value s (tabV m s) (idsV m s ⟨n.val / 128, by omega⟩) ⟨n.val % 128, Nat.mod_lt _ (by decide)⟩ l).trans ?_
  simp only [e]
  split_ifs with h
  · show (m ((s.tc : Thread nD τ).loc main_arg0) : S2048x256.Idx → EReal) _ = _
    rw [hT s]
    show T _ = T _
    congr 1
    funext a
    match a with
    | ⟨0, _⟩ => exact Fin.ext (by show s.val * 2048 + (I (ix1 n)).toNat % 2048 = (I (ix1 n)).toNat; omega)
    | ⟨1, _⟩ => rfl
  · rfl

/-- The result at row `n` and column `l`. -/
theorem outV_value (n : Fin 512) (l : Fin 256) (hlt : (I (ix1 n)).toNat < 16384) :
    outV m (ix2 n l) = T (ix2 ⟨(I (ix1 n)).toNat, hlt⟩ l) := by
  have hn := n.isLt
  have hv : ∀ s : Dev nD, row1 (shareV m s ⟨n.val / 64, by show _ < 8; omega⟩) (ix3 0 ⟨n.val % 64, Nat.mod_lt _ (by decide)⟩ l)
      = if (I (ix1 n)).toNat / 2048 = s.val then T (ix2 ⟨(I (ix1 n)).toNat, hlt⟩ l) else (0 : EReal) := fun s => by
    rw [row1_value, share_value m s _ _ l n (by show n.val = 64 * (n.val / 64) + n.val % 64; omega), partV_value m T I ht hT hI s n l hlt]
  refine (sum_value _ _ _ _ _ _ _ _ ⟨n.val % 64, Nat.mod_lt _ (by decide)⟩ l).trans ?_
  exact sum_pick (fun _ => T (ix2 ⟨(I (ix1 n)).toNat, hlt⟩ l)) ((I (ix1 n)).toNat / 2048) (by omega)
    (fun s => row1 (shareV m s ⟨n.val / 64, by show _ < 8; omega⟩) (ix3 0 ⟨n.val % 64, Nat.mod_lt _ (by decide)⟩ l)) hv

end

end Cert.Gather

end
-- ==== Proof.Gather.Reference.lean ====
/- The reference's result at exact arithmetic, element by element: row `i` is the table's row at index `i`, for indices
   that name rows of the table. -/
module

public import proofs.«01_k».proof.Proof.Gen.ReferenceIdeal.Run
public import Idealize.ShloMosaic.Lib.Pointwise
public import Idealize.ShloMosaic.Lib.Affine
public import Idealize.ShloMosaic.Lib.Routing.Ops

@[expose] public section

noncomputable section

namespace Cert.Gather

open Cert.ReferenceIdeal Cert.ReferenceIdeal.Gen

open Idealize.ShloMosaic

/-- The start index is the index itself where that is not negative. -/
theorem start_value (I : IVec S512 32) (n : Fin 512) (hlt : (I (ix1 n)).toNat < 16384) :
    broadcastInDim S512x1 ![0] bcast_S512_S512x1_0 (select (cmpi .slt I (broadcastInDim S512 ![] bcast_S_S512 (constantI S_ 32 0#32)))
      (addi I (broadcastInDim S512 ![] bcast_S_S512 (constantI S_ 32 16384#32))) I) (ix2 n 0) = I (ix1 n) := by
  pointwise []
  have h : IntOp.cmpi .slt (I (ix1 n)) 0#32 ≠ 1#1 := fun e => by
    have e' := IntOp.cmpi_slt.1 e
    rw [BitVec.toInt_eq_toNat_cond, if_pos (by omega), show (0#32 : BitVec 32).toInt = 0 by decide] at e'
    omega
  exact if_neg h

/-- The reference's result at row `n` and column `l`. -/
theorem ref_value (T : S16384x256.Idx → EReal) (I : IVec S512 32) (n : Fin 512) (l : Fin 256) (hlt : (I (ix1 n)).toNat < 16384) :
    (truncf .bf16 (Host.gather gather_S16384x256_S512x1_S512x256_1_0_n_n_0_1_1256 (T : FVec Ideal S16384x256 .f32)
      (broadcastInDim S512x1 ![0] bcast_S512_S512x1_0 (select (cmpi .slt I (broadcastInDim S512 ![] bcast_S_S512 (constantI S_ 32 0#32)))
        (addi I (broadcastInDim S512 ![] bcast_S_S512 (constantI S_ 32 16384#32))) I))) bitsLt_bf16_f32 : FVec Ideal S512x256 .bf16) (ix2 n l)
      = T (ix2 ⟨(I (ix1 n)).toNat, hlt⟩ l) := by
  refine Routing.gather_row gather_S16384x256_S512x1_S512x256_1_0_n_n_0_1_1256 rfl rfl rfl rfl rfl T _ n l ⟨(I (ix1 n)).toNat, hlt⟩ ?_ (by decide)
  exact (start_value I n hlt).trans (by simp)

end Cert.Gather

end
-- ==== Proof.Gather.Precondition.lean ====
/- What the precondition says of the indices. -/
module

public import proofs.«01_k».proof.Pre_in_range_KernelIdeal
public import proofs.«01_k».proof.Pre_in_range_ReferenceIdeal
public import Idealize.ShloMosaic.Lib.ReduceAll
public import Idealize.ShloMosaic.Lib.Affine
public import Idealize.ShloMosaic.Lib.Pointwise

@[expose] public section

noncomputable section

namespace Cert.Gather

open Idealize.ShloMosaic

/-- The side conditions that the printed precondition states, of one device's arguments; -/
theorem preFacts : Cert.Pre_in_range_KernelIdeal.Facts :=
  { bcast_S_S512 := by decide, reducesTo_S512_S_d0 := by decide, h_S_ := by decide }
/-- and of the reference's. -/
theorem preFactsR : Cert.Pre_in_range_ReferenceIdeal.Facts :=
  { bcast_S_S512 := by decide, reducesTo_S512_S_d0 := by decide, h_S_ := by decide }

/-- A word that is at least zero and below 16384 when read with its sign is below 16384 when read without. -/
theorem word_lt (x : BitVec 32) (h : IntOp.andi (IntOp.cmpi .sge x 0#32) (IntOp.cmpi .slt x 16384#32) = 1#1) : x.toNat < 16384 := by
  obtain ⟨h0, h1⟩ := IntOp.andi_eq_one.1 h
  have a0 := IntOp.cmpi_sge.1 h0
  have a1 := IntOp.cmpi_slt.1 h1
  have e0 : (0#32).toInt = 0 := by decide
  have e1 : (16384#32).toInt = 16384 := by decide
  rw [e0] at a0; rw [e1] at a1
  rw [BitVec.toInt_eq_toNat_cond] at a0 a1
  have := x.isLt
  split_ifs at a0 a1 <;> omega

/-- Where the precondition holds every index is below 16384. -/
theorem index_lt [Cert.Pre_in_range_KernelIdeal.Facts] (tab : FVec Ideal Cert.Pre_in_range_KernelIdeal.S2048x256 .f32)
    (idx : IVec Cert.Pre_in_range_KernelIdeal.S512 32) (h : Cert.Pre_in_range_KernelIdeal.fn (F := Ideal) tab idx = fun _ => 1#1)
    (i : Cert.Pre_in_range_KernelIdeal.S512.Idx) : (idx i).toNat < 16384 := by
  have h0 := congrFun h ix0
  dsimp only [Cert.Pre_in_range_KernelIdeal.fn] at h0
  haveI : Subsingleton Cert.Pre_in_range_KernelIdeal.S_.Idx := ⟨fun a b => funext fun k => k.elim0⟩
  exact word_lt _ (Host.reduce_andi_all _ _ _ _ _ h0 i)

end Cert.Gather

end
-- ==== Proof.Gather.Programs.lean ====
/- The kernel as printed and its idealization are the same programs at any float values. -/
module

public import proofs.«01_k».proof.Proof.Gen.Kernel
public import proofs.«01_k».proof.Proof.Gen.KernelIdeal

@[expose] public section

noncomputable section

namespace Cert.Gather

open Idealize.ShloMosaic

variable {F : FTy → Type} [FloatOps F]

set_option maxRecDepth 65536 in
/-- The two kernel functions are one. -/
theorem body_same : Cert.Kernel.cc0_body (F := F) = Cert.KernelIdeal.cc0_body (F := F) := rfl

set_option maxRecDepth 65536 in
/-- The tables of the kernel functions are one: each has the one label. -/
theorem kernels_same : Cert.Kernel.defs₀ (F := F) = Cert.KernelIdeal.defs₀ (F := F) := by
  refine congrArg Defs.onTc (funext fun l => ?_)
  match l with
  | ⟨0, _⟩ =>
    funext ⟨t, s⟩
    exact congrFun rfl _

/-- So are the whole body tables. -/
theorem defs_same : Cert.Kernel.defs (F := F) = Cert.KernelIdeal.defs (F := F) :=
  congrArg (Pipeline.defs Cert.Kernel.pcfgs) kernels_same

end Cert.Gather

end
-- ==== Proof.Gather.Claims.lean ====
/- The claims, each by the run of the program that it speaks of: the frames of the kernel as printed, of its idealization
   and of the reference, and the equality of the two results. -/
module

public import proofs.«01_k».proof.Defs
public import proofs.«01_k».proof.Proof.Gather.Run
public import proofs.«01_k».proof.Proof.Gather.Result
public import proofs.«01_k».proof.Proof.Gather.Reference
public import proofs.«01_k».proof.Proof.Gather.Precondition
public import proofs.«01_k».proof.Proof.Gather.Programs

@[expose] public section

noncomputable section

namespace Cert.Gather

open Idealize.ShloMosaic Idealize.ShloMosaic.TcCoe Idealize.SL.Sem

/-- The kernel as printed ends with its arguments unchanged and every semaphore at zero. -/
theorem frame_kernel : @Cert.quiescent_Kernel Cert.Kernel.Gen.facts := by
  intro m ρ _
  rw [defs_same]
  exact run_frame (F := Bits) m ρ

/-- So does its idealization, -/
theorem frame_ideal : @Cert.quiescent_KernelIdeal Cert.KernelIdeal.Gen.facts := fun m ρ _ => run_frame (F := Ideal) m ρ
/-- whatever precondition is asked; -/
theorem frame_ideal_pre : @Cert.quiescent_KernelIdeal_pre_in_range_KernelIdeal Cert.KernelIdeal.Gen.facts preFacts :=
  fun m ρ _ => run_frame (F := Ideal) m ρ

/-- and the reference, which declares no semaphore, -/
theorem frame_ref : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- whatever precondition is asked. -/
theorem frame_ref_pre : @Cert.quiescent_ReferenceIdeal_pre_in_range_ReferenceIdeal Cert.ReferenceIdeal.Gen.facts preFactsR :=
  fun m ρ _ => frame_ref m ρ trivial

/-- At exact arithmetic, for indices that name rows of the table, every device's result is the reference's. -/
theorem algebraic : @Cert.algebraic_KernelIdeal_ReferenceIdeal_pre_in_range_KernelIdeal Cert.KernelIdeal.Gen.facts
    Cert.ReferenceIdeal.Gen.facts preFacts := by
  intro m ρ m' ρ' hpre hag
  refine ⟨(outV m : (Cert.KernelIdeal.main_v1 : Ref Cert.KernelIdeal.sig .tc).ty.Contents (Elt Ideal)), ?_, ?_⟩
  · exact (θ_run Cert.KernelIdeal.defs _ _).mono (fun _ h => h.1) (run_value (F := Ideal) m ρ)
  · refine (θ_run Cert.ReferenceIdeal.defs _ _).mono (fun _ h => ⟨(h 0).1.trans ?_, (h 0).2⟩) (Cert.ReferenceIdeal.Value.run (F := Ideal) m' ρ')
    have hlt := @index_lt preFacts _ _ (hpre 0)
    rw [(hag 0).2] at hlt
    funext i
    obtain ⟨n, l, rfl⟩ : ∃ (n : Fin 512) (l : Fin 256), i = ix2 n l :=
      ⟨i 0, i 1, by funext a; match a with | ⟨0, _⟩ => rfl | ⟨1, _⟩ => rfl⟩
    exact (ref_value _ _ n l (hlt (ix1 n))).trans
      (outV_value m _ _ _ (fun c => (hag c).1) (fun c => (hag c).2) n l (hlt (ix1 n))).symm

end Cert.Gather

end
-- ==== Proof.lean ====
module

public import proofs.«01_k».proof.Defs
public import proofs.«01_k».proof.Proof.Gather.Claims

@[expose] public section

noncomputable section

namespace Cert.Proof

/-- Every claim that is made of the kernel. -/
theorem claim : Cert.Claim :=
  ⟨Cert.Kernel.Gen.facts, Cert.KernelIdeal.Gen.facts, Cert.ReferenceIdeal.Gen.facts, Cert.Gather.preFacts, Cert.Gather.preFactsR,
    Cert.Gather.frame_kernel, Cert.Gather.frame_ideal, Cert.Gather.frame_ideal_pre, Cert.Gather.frame_ref, Cert.Gather.frame_ref_pre,
    trivial, Cert.Gather.algebraic⟩

end Cert.Proof

end
